-- ==== Defs.lean ====
def Pre_Kernel [hPre_roll_1_Kernel : Cert.Pre_roll_1_Kernel.Facts] (m : (ℓ : Loc Cert.Kernel.nD Cert.Kernel.τ Cert.Kernel.sig) → Buf (Elt Bits) ℓ) : Prop :=
  ∀ c : Dev Cert.Kernel.nD,
    (Cert.Pre_roll_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_2_Kernel [hPre_roll_2_Kernel : Cert.Pre_roll_2_Kernel.Facts] (m : (ℓ : Loc Cert.Kernel.nD Cert.Kernel.τ Cert.Kernel.sig) → Buf (Elt Bits) ℓ) : Prop :=
  ∀ c : Dev Cert.Kernel.nD,
    (Cert.Pre_roll_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_3_Kernel [hPre_roll_3_Kernel : Cert.Pre_roll_3_Kernel.Facts] (m : (ℓ : Loc Cert.Kernel.nD Cert.Kernel.τ Cert.Kernel.sig) → Buf (Elt Bits) ℓ) : Prop :=
  ∀ c : Dev Cert.Kernel.nD,
    (Cert.Pre_roll_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_4_Kernel [hPre_roll_4_Kernel : Cert.Pre_roll_4_Kernel.Facts] (m : (ℓ : Loc Cert.Kernel.nD Cert.Kernel.τ Cert.Kernel.sig) → Buf (Elt Bits) ℓ) : Prop :=
  ∀ c : Dev Cert.Kernel.nD,
    (Cert.Pre_roll_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_5_Kernel [hPre_roll_5_Kernel : Cert.Pre_roll_5_Kernel.Facts] (m : (ℓ : Loc Cert.Kernel.nD Cert.Kernel.τ Cert.Kernel.sig) → Buf (Elt Bits) ℓ) : Prop :=
  ∀ c : Dev Cert.Kernel.nD,
    (Cert.Pre_roll_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_6_Kernel [hPre_roll_6_Kernel : Cert.Pre_roll_6_Kernel.Facts] (m : (ℓ : Loc Cert.Kernel.nD Cert.Kernel.τ Cert.Kernel.sig) → Buf (Elt Bits) ℓ) : Prop :=
  ∀ c : Dev Cert.Kernel.nD,
    (Cert.Pre_roll_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll_7_Kernel [hPre_roll_7_Kernel : Cert.Pre_roll_7_Kernel.Facts] (m : (ℓ : Loc Cert.Kernel.nD Cert.Kernel.τ Cert.Kernel.sig) → Buf (Elt Bits) ℓ) : Prop :=
  ∀ c : Dev Cert.Kernel.nD,
    (Cert.Pre_roll_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_roll_1_Kernel : Cert.Pre_roll_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_2_Kernel [hPre_roll_2_Kernel : Cert.Pre_roll_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_3_Kernel [hPre_roll_3_Kernel : Cert.Pre_roll_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_4_Kernel [hPre_roll_4_Kernel : Cert.Pre_roll_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_5_Kernel [hPre_roll_5_Kernel : Cert.Pre_roll_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_6_Kernel [hPre_roll_6_Kernel : Cert.Pre_roll_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll_7_Kernel [hPre_roll_7_Kernel : Cert.Pre_roll_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_roll_1_ReferenceIdeal [hPre_roll_1_ReferenceIdeal : Cert.Pre_roll_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_2_ReferenceIdeal [hPre_roll_2_ReferenceIdeal : Cert.Pre_roll_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_3_ReferenceIdeal [hPre_roll_3_ReferenceIdeal : Cert.Pre_roll_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_4_ReferenceIdeal [hPre_roll_4_ReferenceIdeal : Cert.Pre_roll_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_5_ReferenceIdeal [hPre_roll_5_ReferenceIdeal : Cert.Pre_roll_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_6_ReferenceIdeal [hPre_roll_6_ReferenceIdeal : Cert.Pre_roll_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll_7_ReferenceIdeal [hPre_roll_7_ReferenceIdeal : Cert.Pre_roll_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_roll_1_Kernel : Cert.Pre_roll_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_2_Kernel [hKernel : Cert.Kernel.Facts] [hPre_roll_2_Kernel : Cert.Pre_roll_2_Kernel.Facts] : Prop :=
  ∀ (m : (ℓ : Loc Cert.Kernel.nD Cert.Kernel.τ Cert.Kernel.sig) → Buf (Elt Bits) ℓ) (g : Dev Cert.Kernel.nD → PrngReg), Pre_Kernel_roll_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_3_Kernel [hKernel : Cert.Kernel.Facts] [hPre_roll_3_Kernel : Cert.Pre_roll_3_Kernel.Facts] : Prop :=
  ∀ (m : (ℓ : Loc Cert.Kernel.nD Cert.Kernel.τ Cert.Kernel.sig) → Buf (Elt Bits) ℓ) (g : Dev Cert.Kernel.nD → PrngReg), Pre_Kernel_roll_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_4_Kernel [hKernel : Cert.Kernel.Facts] [hPre_roll_4_Kernel : Cert.Pre_roll_4_Kernel.Facts] : Prop :=
  ∀ (m : (ℓ : Loc Cert.Kernel.nD Cert.Kernel.τ Cert.Kernel.sig) → Buf (Elt Bits) ℓ) (g : Dev Cert.Kernel.nD → PrngReg), Pre_Kernel_roll_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_5_Kernel [hKernel : Cert.Kernel.Facts] [hPre_roll_5_Kernel : Cert.Pre_roll_5_Kernel.Facts] : Prop :=
  ∀ (m : (ℓ : Loc Cert.Kernel.nD Cert.Kernel.τ Cert.Kernel.sig) → Buf (Elt Bits) ℓ) (g : Dev Cert.Kernel.nD → PrngReg), Pre_Kernel_roll_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_6_Kernel [hKernel : Cert.Kernel.Facts] [hPre_roll_6_Kernel : Cert.Pre_roll_6_Kernel.Facts] : Prop :=
  ∀ (m : (ℓ : Loc Cert.Kernel.nD Cert.Kernel.τ Cert.Kernel.sig) → Buf (Elt Bits) ℓ) (g : Dev Cert.Kernel.nD → PrngReg), Pre_Kernel_roll_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll_7_Kernel [hKernel : Cert.Kernel.Facts] [hPre_roll_7_Kernel : Cert.Pre_roll_7_Kernel.Facts] : Prop :=
  ∀ (m : (ℓ : Loc Cert.Kernel.nD Cert.Kernel.τ Cert.Kernel.sig) → Buf (Elt Bits) ℓ) (g : Dev Cert.Kernel.nD → PrngReg), Pre_Kernel_roll_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_roll_1_Kernel : Cert.Pre_roll_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_2_Kernel [hKernelIdeal : Cert.KernelIdeal.Facts] [hPre_roll_2_Kernel : Cert.Pre_roll_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_3_Kernel [hKernelIdeal : Cert.KernelIdeal.Facts] [hPre_roll_3_Kernel : Cert.Pre_roll_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_4_Kernel [hKernelIdeal : Cert.KernelIdeal.Facts] [hPre_roll_4_Kernel : Cert.Pre_roll_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_5_Kernel [hKernelIdeal : Cert.KernelIdeal.Facts] [hPre_roll_5_Kernel : Cert.Pre_roll_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_6_Kernel [hKernelIdeal : Cert.KernelIdeal.Facts] [hPre_roll_6_Kernel : Cert.Pre_roll_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll_7_Kernel [hKernelIdeal : Cert.KernelIdeal.Facts] [hPre_roll_7_Kernel : Cert.Pre_roll_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_1_ReferenceIdeal [hReferenceIdeal : Cert.ReferenceIdeal.Facts] [hPre_roll_1_ReferenceIdeal : Cert.Pre_roll_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_2_ReferenceIdeal [hReferenceIdeal : Cert.ReferenceIdeal.Facts] [hPre_roll_2_ReferenceIdeal : Cert.Pre_roll_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_3_ReferenceIdeal [hReferenceIdeal : Cert.ReferenceIdeal.Facts] [hPre_roll_3_ReferenceIdeal : Cert.Pre_roll_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_4_ReferenceIdeal [hReferenceIdeal : Cert.ReferenceIdeal.Facts] [hPre_roll_4_ReferenceIdeal : Cert.Pre_roll_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_5_ReferenceIdeal [hReferenceIdeal : Cert.ReferenceIdeal.Facts] [hPre_roll_5_ReferenceIdeal : Cert.Pre_roll_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_6_ReferenceIdeal [hReferenceIdeal : Cert.ReferenceIdeal.Facts] [hPre_roll_6_ReferenceIdeal : Cert.Pre_roll_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll_7_ReferenceIdeal [hReferenceIdeal : Cert.ReferenceIdeal.Facts] [hPre_roll_7_ReferenceIdeal : Cert.Pre_roll_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_roll_1_Kernel : Cert.Pre_roll_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![8, 512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![8, 512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_2_Kernel [hKernelIdeal : Cert.KernelIdeal.Facts] [hReferenceIdeal : Cert.ReferenceIdeal.Facts] [hPre_roll_2_Kernel : Cert.Pre_roll_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_2_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![8, 512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![8, 512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_3_Kernel [hKernelIdeal : Cert.KernelIdeal.Facts] [hReferenceIdeal : Cert.ReferenceIdeal.Facts] [hPre_roll_3_Kernel : Cert.Pre_roll_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_3_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![8, 512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![8, 512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_4_Kernel [hKernelIdeal : Cert.KernelIdeal.Facts] [hReferenceIdeal : Cert.ReferenceIdeal.Facts] [hPre_roll_4_Kernel : Cert.Pre_roll_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_4_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![8, 512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![8, 512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_5_Kernel [hKernelIdeal : Cert.KernelIdeal.Facts] [hReferenceIdeal : Cert.ReferenceIdeal.Facts] [hPre_roll_5_Kernel : Cert.Pre_roll_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_5_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![8, 512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![8, 512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_6_Kernel [hKernelIdeal : Cert.KernelIdeal.Facts] [hReferenceIdeal : Cert.ReferenceIdeal.Facts] [hPre_roll_6_Kernel : Cert.Pre_roll_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_6_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![8, 512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![8, 512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll_7_Kernel [hKernelIdeal : Cert.KernelIdeal.Facts] [hReferenceIdeal : Cert.ReferenceIdeal.Facts] [hPre_roll_7_Kernel : Cert.Pre_roll_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll_7_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![8, 512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![8, 512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_roll_1_Kernel : Cert.Pre_roll_1_Kernel.Facts) (hPre_roll_2_Kernel : Cert.Pre_roll_2_Kernel.Facts) (hPre_roll_3_Kernel : Cert.Pre_roll_3_Kernel.Facts) (hPre_roll_4_Kernel : Cert.Pre_roll_4_Kernel.Facts) (hPre_roll_5_Kernel : Cert.Pre_roll_5_Kernel.Facts) (hPre_roll_6_Kernel : Cert.Pre_roll_6_Kernel.Facts) (hPre_roll_7_Kernel : Cert.Pre_roll_7_Kernel.Facts) (hPre_roll_1_ReferenceIdeal : Cert.Pre_roll_1_ReferenceIdeal.Facts) (hPre_roll_2_ReferenceIdeal : Cert.Pre_roll_2_ReferenceIdeal.Facts) (hPre_roll_3_ReferenceIdeal : Cert.Pre_roll_3_ReferenceIdeal.Facts) (hPre_roll_4_ReferenceIdeal : Cert.Pre_roll_4_ReferenceIdeal.Facts) (hPre_roll_5_ReferenceIdeal : Cert.Pre_roll_5_ReferenceIdeal.Facts) (hPre_roll_6_ReferenceIdeal : Cert.Pre_roll_6_ReferenceIdeal.Facts) (hPre_roll_7_ReferenceIdeal : Cert.Pre_roll_7_ReferenceIdeal.Facts),
    quiescent_Kernel (hKernel := hKernel) (hPre_roll_1_Kernel := hPre_roll_1_Kernel)
    ∧ quiescent_Kernel_pre_roll_2_Kernel (hKernel := hKernel) (hPre_roll_2_Kernel := hPre_roll_2_Kernel)
    ∧ quiescent_Kernel_pre_roll_3_Kernel (hKernel := hKernel) (hPre_roll_3_Kernel := hPre_roll_3_Kernel)
    ∧ quiescent_Kernel_pre_roll_4_Kernel (hKernel := hKernel) (hPre_roll_4_Kernel := hPre_roll_4_Kernel)
    ∧ quiescent_Kernel_pre_roll_5_Kernel (hKernel := hKernel) (hPre_roll_5_Kernel := hPre_roll_5_Kernel)
    ∧ quiescent_Kernel_pre_roll_6_Kernel (hKernel := hKernel) (hPre_roll_6_Kernel := hPre_roll_6_Kernel)
    ∧ quiescent_Kernel_pre_roll_7_Kernel (hKernel := hKernel) (hPre_roll_7_Kernel := hPre_roll_7_Kernel)
    ∧ quiescent_KernelIdeal (hKernelIdeal := hKernelIdeal) (hPre_roll_1_Kernel := hPre_roll_1_Kernel)
    ∧ quiescent_KernelIdeal_pre_roll_2_Kernel (hKernelIdeal := hKernelIdeal) (hPre_roll_2_Kernel := hPre_roll_2_Kernel)
    ∧ quiescent_KernelIdeal_pre_roll_3_Kernel (hKernelIdeal := hKernelIdeal) (hPre_roll_3_Kernel := hPre_roll_3_Kernel)
    ∧ quiescent_KernelIdeal_pre_roll_4_Kernel (hKernelIdeal := hKernelIdeal) (hPre_roll_4_Kernel := hPre_roll_4_Kernel)
    ∧ quiescent_KernelIdeal_pre_roll_5_Kernel (hKernelIdeal := hKernelIdeal) (hPre_roll_5_Kernel := hPre_roll_5_Kernel)
    ∧ quiescent_KernelIdeal_pre_roll_6_Kernel (hKernelIdeal := hKernelIdeal) (hPre_roll_6_Kernel := hPre_roll_6_Kernel)
    ∧ quiescent_KernelIdeal_pre_roll_7_Kernel (hKernelIdeal := hKernelIdeal) (hPre_roll_7_Kernel := hPre_roll_7_Kernel)
    ∧ quiescent_ReferenceIdeal (hReferenceIdeal := hReferenceIdeal)
    ∧ quiescent_ReferenceIdeal_pre_roll_1_ReferenceIdeal (hReferenceIdeal := hReferenceIdeal) (hPre_roll_1_ReferenceIdeal := hPre_roll_1_ReferenceIdeal)
    ∧ quiescent_ReferenceIdeal_pre_roll_2_ReferenceIdeal (hReferenceIdeal := hReferenceIdeal) (hPre_roll_2_ReferenceIdeal := hPre_roll_2_ReferenceIdeal)
    ∧ quiescent_ReferenceIdeal_pre_roll_3_ReferenceIdeal (hReferenceIdeal := hReferenceIdeal) (hPre_roll_3_ReferenceIdeal := hPre_roll_3_ReferenceIdeal)
    ∧ quiescent_ReferenceIdeal_pre_roll_4_ReferenceIdeal (hReferenceIdeal := hReferenceIdeal) (hPre_roll_4_ReferenceIdeal := hPre_roll_4_ReferenceIdeal)
    ∧ quiescent_ReferenceIdeal_pre_roll_5_ReferenceIdeal (hReferenceIdeal := hReferenceIdeal) (hPre_roll_5_ReferenceIdeal := hPre_roll_5_ReferenceIdeal)
    ∧ quiescent_ReferenceIdeal_pre_roll_6_ReferenceIdeal (hReferenceIdeal := hReferenceIdeal) (hPre_roll_6_ReferenceIdeal := hPre_roll_6_ReferenceIdeal)
    ∧ quiescent_ReferenceIdeal_pre_roll_7_ReferenceIdeal (hReferenceIdeal := hReferenceIdeal) (hPre_roll_7_ReferenceIdeal := hPre_roll_7_ReferenceIdeal)
    ∧ preserves_Kernel_KernelIdeal
    ∧ algebraic_KernelIdeal_ReferenceIdeal (hKernelIdeal := hKernelIdeal) (hReferenceIdeal := hReferenceIdeal) (hPre_roll_1_Kernel := hPre_roll_1_Kernel)
    ∧ algebraic_KernelIdeal_ReferenceIdeal_pre_roll_2_Kernel (hKernelIdeal := hKernelIdeal) (hReferenceIdeal := hReferenceIdeal) (hPre_roll_2_Kernel := hPre_roll_2_Kernel)
    ∧ algebraic_KernelIdeal_ReferenceIdeal_pre_roll_3_Kernel (hKernelIdeal := hKernelIdeal) (hReferenceIdeal := hReferenceIdeal) (hPre_roll_3_Kernel := hPre_roll_3_Kernel)
    ∧ algebraic_KernelIdeal_ReferenceIdeal_pre_roll_4_Kernel (hKernelIdeal := hKernelIdeal) (hReferenceIdeal := hReferenceIdeal) (hPre_roll_4_Kernel := hPre_roll_4_Kernel)
    ∧ algebraic_KernelIdeal_ReferenceIdeal_pre_roll_5_Kernel (hKernelIdeal := hKernelIdeal) (hReferenceIdeal := hReferenceIdeal) (hPre_roll_5_Kernel := hPre_roll_5_Kernel)
    ∧ algebraic_KernelIdeal_ReferenceIdeal_pre_roll_6_Kernel (hKernelIdeal := hKernelIdeal) (hReferenceIdeal := hReferenceIdeal) (hPre_roll_6_Kernel := hPre_roll_6_Kernel)
    ∧ algebraic_KernelIdeal_ReferenceIdeal_pre_roll_7_Kernel (hKernelIdeal := hKernelIdeal) (hReferenceIdeal := hReferenceIdeal) (hPre_roll_7_Kernel := hPre_roll_7_Kernel)
-- ==== Pre_roll_1_Kernel.lean ====
abbrev S1x512x512 : Shape := ⟨3, ![1, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x512x512 .bf16) (main_arg1 : IVec S8 32) : IVec S8 1 :=
  let main_v0 : IVec S8 32 := iotaInDim S8 32 0
  let main_c : IVec S_ 32 := constantI S_ 32 7#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_1_ReferenceIdeal.lean ====
abbrev S8x512x512 : Shape := ⟨3, ![8, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x512x512 .bf16) (main_arg1 : IVec S8 32) : IVec S8 1 :=
  let main_v0 : IVec S8 32 := iotaInDim S8 32 0
  let main_c : IVec S_ 32 := constantI S_ 32 7#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_2_Kernel.lean ====
abbrev S1x512x512 : Shape := ⟨3, ![1, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x512x512 .bf16) (main_arg1 : IVec S8 32) : IVec S8 1 :=
  let main_v0 : IVec S8 32 := iotaInDim S8 32 0
  let main_c : IVec S_ 32 := constantI S_ 32 6#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_2_ReferenceIdeal.lean ====
abbrev S8x512x512 : Shape := ⟨3, ![8, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x512x512 .bf16) (main_arg1 : IVec S8 32) : IVec S8 1 :=
  let main_v0 : IVec S8 32 := iotaInDim S8 32 0
  let main_c : IVec S_ 32 := constantI S_ 32 6#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_3_Kernel.lean ====
abbrev S1x512x512 : Shape := ⟨3, ![1, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x512x512 .bf16) (main_arg1 : IVec S8 32) : IVec S8 1 :=
  let main_v0 : IVec S8 32 := iotaInDim S8 32 0
  let main_c : IVec S_ 32 := constantI S_ 32 5#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_3_ReferenceIdeal.lean ====
abbrev S8x512x512 : Shape := ⟨3, ![8, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x512x512 .bf16) (main_arg1 : IVec S8 32) : IVec S8 1 :=
  let main_v0 : IVec S8 32 := iotaInDim S8 32 0
  let main_c : IVec S_ 32 := constantI S_ 32 5#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_4_Kernel.lean ====
abbrev S1x512x512 : Shape := ⟨3, ![1, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x512x512 .bf16) (main_arg1 : IVec S8 32) : IVec S8 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_4_ReferenceIdeal.lean ====
abbrev S8x512x512 : Shape := ⟨3, ![8, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x512x512 .bf16) (main_arg1 : IVec S8 32) : IVec S8 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_5_Kernel.lean ====
abbrev S1x512x512 : Shape := ⟨3, ![1, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x512x512 .bf16) (main_arg1 : IVec S8 32) : IVec S8 1 :=
  let main_v0 : IVec S8 32 := iotaInDim S8 32 0
  let main_c : IVec S_ 32 := constantI S_ 32 3#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_5_ReferenceIdeal.lean ====
abbrev S8x512x512 : Shape := ⟨3, ![8, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x512x512 .bf16) (main_arg1 : IVec S8 32) : IVec S8 1 :=
  let main_v0 : IVec S8 32 := iotaInDim S8 32 0
  let main_c : IVec S_ 32 := constantI S_ 32 3#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_6_Kernel.lean ====
abbrev S1x512x512 : Shape := ⟨3, ![1, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x512x512 .bf16) (main_arg1 : IVec S8 32) : IVec S8 1 :=
  let main_v0 : IVec S8 32 := iotaInDim S8 32 0
  let main_c : IVec S_ 32 := constantI S_ 32 2#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_6_ReferenceIdeal.lean ====
abbrev S8x512x512 : Shape := ⟨3, ![8, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x512x512 .bf16) (main_arg1 : IVec S8 32) : IVec S8 1 :=
  let main_v0 : IVec S8 32 := iotaInDim S8 32 0
  let main_c : IVec S_ 32 := constantI S_ 32 2#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_7_Kernel.lean ====
abbrev S1x512x512 : Shape := ⟨3, ![1, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S1x512x512 .bf16) (main_arg1 : IVec S8 32) : IVec S8 1 :=
  let main_v0 : IVec S8 32 := iotaInDim S8 32 0
  let main_c : IVec S_ 32 := constantI S_ 32 1#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Pre_roll_7_ReferenceIdeal.lean ====
abbrev S8x512x512 : Shape := ⟨3, ![8, 512, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x512x512 .bf16) (main_arg1 : IVec S8 32) : IVec S8 1 :=
  let main_v0 : IVec S8 32 := iotaInDim S8 32 0
  let main_c : IVec S_ 32 := constantI S_ 32 1#32
  let main_v1 : IVec S8 32 := broadcastInDim S8 ![] bcast_S_S8 main_c
  let main_v2 : IVec S8 32 := addi main_v0 main_v1
  let main_c_0 : IVec S_ 32 := constantI S_ 32 8#32
  let main_v3 : IVec S8 32 := broadcastInDim S8 ![] bcast_S_S8 main_c_0
  let main_v4 : IVec S8 32 := Host.remsi main_v2 main_v3
  let main_v5 : IVec S8 1 := cmpi .eq main_arg1 main_v4
  main_v5
-- ==== Kernel.lean ====
abbrev S1x512x512 : Shape := ⟨3, ![1, 512, 512]⟩
abbrev S8 : Shape := ⟨1, ![8]⟩
abbrev S_ : Shape := ⟨0, ![]⟩
abbrev S1 : Shape := ⟨1, ![1]⟩
abbrev S512x512 : Shape := ⟨2, ![512, 512]⟩

abbrev nBuf : Space → Nat
  | .hbm => 3
  | .vmem => 3
  | .smem => 1
  | _ => 0

abbrev bufTy : (tb : Table) → Fin (tcTables nBuf tb) → BufTy
  | .hbm, ⟨0, _⟩ => ⟨S1x512x512, .bf16⟩
  | .hbm, ⟨1, _⟩ => ⟨S8, .i32⟩
  | .hbm, ⟨2, _⟩ => ⟨S1x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .smem, ⟨0, _⟩ => ⟨S8, .i32⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : Index := Scalar.indexCast v2
  ![v3.toNat]
def k0_dev1 (d0 : Dev nD) (v5 : BitVec 32) (v8 : BitVec 32) (v11 : BitVec 32) (v14 : BitVec 32) (v17 : BitVec 32) (v20 : BitVec 32) (v23 : BitVec 32) (v26 : BitVec 32) : Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v27 : BitVec 1 := Scalar.cmpi .eq v26 v2
  let c7_i32 : BitVec 32 := 7#32
  let v24 : BitVec 1 := Scalar.cmpi .eq v23 v2
  let c6_i32 : BitVec 32 := 6#32
  let v21 : BitVec 1 := Scalar.cmpi .eq v20 v2
  let c5_i32 : BitVec 32 := 5#32
  let v18 : BitVec 1 := Scalar.cmpi .eq v17 v2
  let c4_i32 : BitVec 32 := 4#32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let v19 : BitVec 32 := Scalar.select v18 c4_i32 v16
  let v22 : BitVec 32 := Scalar.select v21 c5_i32 v19
  let v25 : BitVec 32 := Scalar.select v24 c6_i32 v22
  let v28 : BitVec 32 := Scalar.select v27 c7_i32 v25
  let c1_i32_3 : BitVec 32 := 1#32
  let v30 : BitVec 32 := Scalar.muli v28 c1_i32_3
  let v31 : BitVec 32 := Scalar.addi c0_i32_4 v30
  v31.toNat

def k0_chk1 (d0 : Dev nD) (v5 : BitVec 32) (v8 : BitVec 32) (v11 : BitVec 32) (v14 : BitVec 32) (v17 : BitVec 32) (v20 : BitVec 32) (v23 : BitVec 32) (v26 : BitVec 32) : Prop :=
  ((k0_dev1 d0 v5 v8 v11 v14 v17 v20 v23 v26) < nD)
theorem k0_dev1_lt : ∀ (d0 : Dev nD) (v5 : BitVec 32) (v8 : BitVec 32) (v11 : BitVec 32) (v14 : BitVec 32) (v17 : BitVec 32) (v20 : BitVec 32) (v23 : BitVec 32) (v26 : BitVec 32) (k0_hw1 : k0_chk1 d0 v5 v8 v11 v14 v17 v20 v23 v26), (k0_dev1 d0 v5 v8 v11 v14 v17 v20 v23 v26) < nD := fun d0 v5 v8 v11 v14 v17 v20 v23 v26 k0_hw1 => k0_hw1

def k0_dev2 (v4 : BitVec 32) : Nat :=
  let c0_i32_13 : BitVec 32 := 0#32
  let c1_i32_12 : BitVec 32 := 1#32
  let v37 : BitVec 32 := Scalar.muli v4 c1_i32_12
  let v38 : BitVec 32 := Scalar.addi c0_i32_13 v37
  v38.toNat

def k0_chk2 (v4 : BitVec 32) : Prop :=
  ((k0_dev2 v4) < nD)
theorem k0_dev2_lt : ∀ (v4 : BitVec 32) (k0_hw2 : k0_chk2 v4), (k0_dev2 v4) < nD := fun v4 k0_hw2 => k0_hw2

abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x512x512 : Shape := ⟨3, ![8, 512, 512]⟩
abbrev S8 : Shape := ⟨1, ![8]⟩
abbrev S_ : Shape := ⟨0, ![]⟩
abbrev S8x1 : Shape := ⟨2, ![8, 1]⟩

abbrev nBuf : Space → Nat
  | .hbm => 16
  | .vmem => 0
  | .smem => 0
  | _ => 0

abbrev bufTy : (tb : Table) → Fin (tcTables nBuf tb) → BufTy
  | .hbm, ⟨0, _⟩ => ⟨S8x512x512, .bf16⟩
  | .hbm, ⟨1, _⟩ => ⟨S8, .i32⟩
  | .hbm, ⟨2, _⟩ => ⟨S8, .i32⟩
  | .hbm, ⟨3, _⟩ => ⟨S8, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i1⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S8x512x512, .bf16⟩
  | .hbm, ⟨14, _⟩ => ⟨S8x512x512, .f32⟩
  | .hbm, ⟨15, _⟩ => ⟨S8x512x512, .bf16⟩
  | _, _ => ⟨S8x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Table.lean ====
/-
  The table of words the program routes by: entry `j` is the number of the device that entry of the permutation
  names. Eight devices, so the permutation is one of `Fin 8`.
-/
module

public import Idealize.ShloMosaic.PureOps
public import Mathlib.Logic.Equiv.Defs

@[expose] public section

noncomputable section

namespace Cert.Proof

open Idealize.ShloMosaic

/-- A device's number as a word. -/
abbrev devWord (c : Fin 8) : BitVec 32 := BitVec.ofNat 32 c.val

/-- The eight words that spell a permutation of the devices. -/
def tableOf (σ : Equiv.Perm (Fin 8)) : IVec ⟨1, ![8]⟩ 32 := fun i => devWord (σ (i 0))

/-- Position `j` of an array of eight. -/
def at8 (j : Fin 8) : Shape.Idx ⟨1, ![8]⟩ := fun a => ⟨j.val, by fin_cases a; exact j.isLt⟩

/-- The table at position `j`. -/
theorem tableOf_at8 (σ : Equiv.Perm (Fin 8)) (j : Fin 8) : tableOf σ (at8 j) = devWord (σ j) := rfl

/-- Every position is one of the eight. -/
theorem at8_self (i : Shape.Idx ⟨1, ![8]⟩) : at8 (i 0) = i := by
  funext a; fin_cases a; rfl

/-- Device words differ where devices do. -/
theorem devWord_beq (a b : Fin 8) : (devWord a == devWord b) = decide (a = b) := by
  revert a b; decide

/-- Comparing the table's entry `j` with device `c` asks whether `j` is the device that sends to `c`. -/
theorem cmpi_table (σ : Equiv.Perm (Fin 8)) (j c : Fin 8) :
    IntOp.cmpi .eq (devWord (σ j)) (devWord c) = BitVec.ofBool (decide (j = σ.symm c)) := by
  show BitVec.ofBool (devWord (σ j) == devWord c) = _
  rw [devWord_beq]
  exact congrArg BitVec.ofBool (decide_eq_decide.mpr (Equiv.eq_symm_apply σ).symm)

end Cert.Proof

end
-- ==== Proof.Rolls.lean ====
/-
  The tables of the preconditions: the devices shifted by `k`, entry `j` being `j - k` modulo eight.
-/
module

public import proofs.«01_k».proof.Proof.Table

@[expose] public section

noncomputable section

namespace Cert.Proof

open Idealize.ShloMosaic

/-- The devices shifted by `k`: device `j` sends to `j - k`, and receives from `j + k`. -/
def shift (k : Fin 8) : Equiv.Perm (Fin 8) where
  toFun j := j - k
  invFun j := j + k
  left_inv j := by revert j k; decide
  right_inv j := by revert j k; decide

/-- The remainder that the precondition computes at position `j` is the word of `j - k`. -/
theorem shift_word (k j : Fin 8) :
    IntOp.remsi .host (BitVec.ofNat 32 j.val + BitVec.ofNat 32 (8 - k.val)) 8#32 = devWord (shift k j) := by
  revert k j; decide

/-- A table that agrees with those remainders at every position is the table of the shift. -/
theorem table_shift (k : Fin 8) (t : IVec ⟨1, ![8]⟩ 32)
    (h : ∀ j : Fin 8, IntOp.cmpi .eq (t (at8 j))
      (IntOp.remsi .host (BitVec.ofNat 32 j.val + BitVec.ofNat 32 (8 - k.val)) 8#32) = 1#1) :
    t = tableOf (shift k) := by
  have entry (j : Fin 8) : t (at8 j) = devWord (shift k j) := by
    have hj := h j
    rw [shift_word] at hj
    cases hc : (t (at8 j) == devWord (shift k j))
    · have : BitVec.ofBool (t (at8 j) == devWord (shift k j)) = 1#1 := hj
      rw [hc] at this; exact absurd this (by decide)
    · exact eq_of_beq hc
  funext i
  exact (congrArg t (at8_self i)).symm.trans (entry (i 0))

end Cert.Proof

end
-- ==== Proof.Sorting.lean ====
/-
  Sorting a table of device numbers. The stable sort of the table of `σ`, carrying the positions along, leaves at
  place `k` the position that holds `k`: that is `σ⁻¹ k`.
-/
module

public import proofs.«01_k».proof.Proof.Table
public import Idealize.ShloMosaic.Lib.SortFacts
public import Mathlib.Order.WellFounded

@[expose] public section

noncomputable section

namespace Cert.Proof

open Idealize.ShloMosaic

/-- Device words are ordered as the devices are. -/
theorem devWord_slt (a b : Fin 8) : (IntOp.cmpi .slt (devWord a) (devWord b) == 1#1) = decide (a < b) := by
  revert a b; decide

/-- Positions sorted by where `σ` sends them are listed by `σ⁻¹`. -/
theorem sortedFrom_perm (σ : Equiv.Perm (Fin 8)) (k : Fin 8) :
    sortedFrom (fun i j : Fin 8 => decide (σ i < σ j)) k = σ.symm k := by
  have mono : StrictMono fun k : Fin 8 => σ (sortedFrom (fun i j : Fin 8 => decide (σ i < σ j)) k) := fun i j hij => by
    have h := sortedFrom_noInversion (fun i j : Fin 8 => decide (σ i < σ j)) (fun i j : Fin 8 => decide (σ i < σ j))
      (fun a b hab => decide_eq_false (lt_asymm (of_decide_eq_true hab))) (fun _ _ hab => hab)
      (fun a b c hab hbc => decide_eq_false (not_lt.mpr
        ((not_lt.mp (of_decide_eq_false hbc)).trans (not_lt.mp (of_decide_eq_false hab))))) i j hij
    exact lt_of_le_of_ne (not_lt.mp (of_decide_eq_false h)) fun e =>
      hij.ne (sortedFrom_injective _ (σ.injective e))
  refine (Equiv.eq_symm_apply σ).mpr ?_
  exact le_antisymm mono.apply_le mono.le_apply

end Cert.Proof

end
-- ==== Proof.Value.lean ====
/-
  What the reference computes from the table of `σ`: its row of blocks `c` is row `σ⁻¹ c` of the argument.
-/
module

public import proofs.«01_k».proof.Proof.Sorting
public import proofs.«01_k».proof.Proof.Gen.ReferenceIdeal.Run
public import Idealize.ShloMosaic.Lib.Layout
public import Idealize.ShloMosaic.PureOps.Ideal

@[expose] public section

noncomputable section

namespace Cert.Proof

open Cert.ReferenceIdeal Cert.ReferenceIdeal.Gen
open Idealize.ShloMosaic Idealize.ShloMosaic.TcCoe Idealize.SL.Sem

/-- The reference's sort of the table of `σ` lists, as words, the values of `σ⁻¹`. -/
theorem argsort_table (σ : Equiv.Perm (Fin 8)) (j : S8.Idx) :
    (Host.sort2 S8 0 comparator_i32_i32_d0 (tableOf σ) (iotaInDim S8 32 0)).2 j = devWord (σ.symm (j 0)) := by
  have place (k : Fin 8) : Shape.Idx.along j (0 : Fin 1) k = at8 k := by
    funext a; fin_cases a; exact Function.update_self (0 : Fin 1) _ j
  have key : (fun k k' : Fin 8 => comparator_i32_i32_d0
        (tableOf σ (Shape.Idx.along j (0 : Fin 1) k), iotaInDim S8 32 0 (Shape.Idx.along j (0 : Fin 1) k))
        (tableOf σ (Shape.Idx.along j (0 : Fin 1) k'), iotaInDim S8 32 0 (Shape.Idx.along j (0 : Fin 1) k')) == 1#1)
      = fun k k' => decide (σ k < σ k') := by
    funext k k'
    rw [place k, place k']
    exact devWord_slt (σ k) (σ k')
  show iotaInDim S8 32 0 (Shape.Idx.along j (0 : Fin 1) (sortedFrom (fun k k' : Fin 8 => comparator_i32_i32_d0
        (tableOf σ (Shape.Idx.along j (0 : Fin 1) k), iotaInDim S8 32 0 (Shape.Idx.along j (0 : Fin 1) k))
        (tableOf σ (Shape.Idx.along j (0 : Fin 1) k'), iotaInDim S8 32 0 (Shape.Idx.along j (0 : Fin 1) k')) == 1#1)
        (j 0))) = _
  rw [key]
  exact (congrArg (iotaInDim S8 32 0) (place _)).trans (congrArg devWord (sortedFrom_perm σ (j 0)))

/-- A device's word is not negative, so the reference's wrap-around leaves it. -/
theorem wrap_devWord (d : Fin 8) :
    Scalar.select (IntOp.cmpi .slt (devWord d) 0#32) (devWord d + 8#32) (devWord d) = devWord d := by
  revert d; decide

/-- Read as a signed number and clamped to the rows, a device's word is its number. -/
theorem clamp_devWord (d : Fin 8) : min (devWord d).toInt.toNat 7 = d.val := by revert d; decide

/-- The index `y` moved to row `d`. -/
def atRow (y : S8x512x512.Idx) (d : Fin 8) : S8x512x512.Idx := fun a =>
  match a with
  | ⟨0, _⟩ => d
  | ⟨1, _⟩ => y 1
  | ⟨2, _⟩ => y 2

/-- A gather of rows, read at an index: where the row numbers hold device `d`'s word at the index's row, the element
    is the operand's at row `d`. -/
theorem gather_rows {α : Type} (x : S8x512x512.Idx → α) (idx : IVec S8x1 32) (y : S8x512x512.Idx) (d : Fin 8)
    (h : ∀ z : S8x1.Idx, (z 0).val = (y 0).val → idx z = devWord d) :
    Host.gather gather_S8x512x512_S8x1_S8x512x512_12_0_n_n_0_1_1512512 x idx y
      = x (atRow y d) := by
  refine congrArg x (funext fun a => Fin.ext ?_)
  show GatherDims.start _ y idx a + GatherDims.batchCoord _ y a + GatherDims.offCoord _ y a = _
  rw [GatherDims.batchCoord_eq_zero _ _ _ List.not_mem_nil, Nat.add_zero]
  have none (b : Fin 3) (hb : b ∉ ([0] : List (Fin 3))) :
      GatherDims.start gather_S8x512x512_S8x1_S8x512x512_12_0_n_n_0_1_1512512 y idx b = 0 := by
    unfold GatherDims.start; exact dif_neg hb
  match a with
  | ⟨0, _⟩ =>
    rw [GatherDims.offCoord_eq_zero _ _ _ fun h => ((GatherDims.mem_sKept _ _).mp h).1 (List.mem_singleton.mpr rfl),
      Nat.add_zero]
    unfold GatherDims.start
    refine (dif_pos (List.mem_singleton.mpr rfl)).trans ?_
    rw [h _ rfl]
    exact clamp_devWord d
  | ⟨1, _⟩ => exact (congrArg (· + _) (none 1 (by decide))).trans (Nat.zero_add _)
  | ⟨2, _⟩ => exact (congrArg (· + _) (none 2 (by decide))).trans (Nat.zero_add _)

/-- The reference's result from the table of `σ`, read at an index: row `c` is the argument's row `σ⁻¹ c`. -/
theorem reference_apply (σ : Equiv.Perm (Fin 8)) (x : FVec Ideal S8x512x512 .bf16) (y : S8x512x512.Idx) :
    (truncf .bf16 (extf .f32 (Host.gather gather_S8x512x512_S8x1_S8x512x512_12_0_n_n_0_1_1512512 x
      (broadcastInDim S8x1 ![0] bcast_S8_S8x1_0 (select
        (cmpi .slt (Host.sort2 S8 0 comparator_i32_i32_d0 (tableOf σ) (iotaInDim S8 32 0)).2
          (broadcastInDim S8 ![] bcast_S_S8 (constantI S_ 32 0#32)))
        (addi (Host.sort2 S8 0 comparator_i32_i32_d0 (tableOf σ) (iotaInDim S8 32 0)).2
          (broadcastInDim S8 ![] bcast_S_S8 (constantI S_ 32 8#32)))
        (Host.sort2 S8 0 comparator_i32_i32_d0 (tableOf σ) (iotaInDim S8 32 0)).2)))
      bitsLt_bf16_f32) bitsLt_bf16_f32 : FVec Ideal S8x512x512 .bf16) y
      = x (atRow y (σ.symm (y 0))) := by
  refine gather_rows x _ y (σ.symm (y 0)) fun z hz => ?_
  have read (v : IVec S8 32) : broadcastInDim S8x1 ![0] bcast_S8_S8x1_0 v z = v (at8 (y 0)) :=
    congrArg v (funext fun a => by fin_cases a; exact Fin.ext hz)
  rw [read]
  show Scalar.select (IntOp.cmpi .slt
      ((Host.sort2 S8 0 comparator_i32_i32_d0 (tableOf σ) (iotaInDim S8 32 0)).2 (at8 (y 0))) 0#32)
    ((Host.sort2 S8 0 comparator_i32_i32_d0 (tableOf σ) (iotaInDim S8 32 0)).2 (at8 (y 0)) + 8#32)
    ((Host.sort2 S8 0 comparator_i32_i32_d0 (tableOf σ) (iotaInDim S8 32 0)).2 (at8 (y 0))) = _
  rw [argsort_table]
  exact wrap_devWord _

end Cert.Proof

end
-- ==== Proof.Ideal.Route.lean ====
/-
  Where the kernel's words lead. With the table of a permutation `σ` in scalar memory, device `c` sends its block to
  `σ c` and signals the device `σ⁻¹ c`, whose block it is to receive.
-/
module

public import proofs.«01_k».proof.Proof.Table
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Proof.Ideal

open Cert.KernelIdeal Cert.KernelIdeal.Gen
open Idealize.ShloMosaic Idealize.ShloMosaic.TcCoe Idealize.SL.Sem

variable {F : FTy → Type} [FloatOps F]

/-- The device the body computes from the table to signal is the one that sends to it. -/
theorem signal_dev (σ : Equiv.Perm (Fin 8)) (c : Dev nD) :
    k0_dev1 c (devWord (σ 0)) (devWord (σ 1)) (devWord (σ 2)) (devWord (σ 3)) (devWord (σ 4)) (devWord (σ 5))
      (devWord (σ 6)) (devWord (σ 7)) = (σ.symm c).val := by
  have hc : Scalar.remsi (Scalar.divsi (Dev.word c) 1#32) 8#32 = devWord c := by revert c; decide
  have key (j : Fin 8) : Scalar.cmpi .eq (devWord (σ j)) (devWord c) = BitVec.ofBool (decide (j = σ.symm c)) :=
    cmpi_table σ j c
  unfold k0_dev1
  simp only [hc, key]
  generalize σ.symm c = s
  revert s; decide

/-- The device the body computes to send to is the one its own entry names. -/
theorem send_dev (d : Fin 8) : k0_dev2 (devWord d) = d.val := by revert d; decide

/-- So that entry passes the body's check. -/
theorem send_ok (d : Fin 8) : k0_chk2 (devWord d) := by
  unfold k0_chk2; rw [send_dev]; exact d.isLt

/-! ## What is staged -/

variable (m : (ℓ : Loc nD τ sig) → Buf (Elt F) ℓ) (ρ : Dev nD → PrngReg)

/-- The memory at launch: any contents, every counter at zero. -/
def start₀ : MemSt nD τ sig (Elt F) := ⟨m, fun _ => 0, ρ⟩

/-- Device `c`'s block. -/
def block (c : Dev nD) : FVec F S1x512x512 .bf16 := m ((c : Thread nD τ).loc main_arg0)

/-- Every device holds the table of `σ`. -/
def Routed (σ : Equiv.Perm (Fin 8)) : Prop := ∀ c : Dev nD, m ((c : Thread nD τ).loc main_arg1) = tableOf σ

omit [FloatOps F] in
/-- The block window stages the whole of a device's block. -/
theorem staged_block (c : Dev nD) :
    (win0_0.blk t0_0).view.read (Elt F) (m ((c : Thread nD τ).loc main_arg0)) = block m c := by
  funext i
  show m ((c : Thread nD τ).loc main_arg0) _ = m ((c : Thread nD τ).loc main_arg0) i
  refine congrArg _ (funext fun a => Fin.ext ?_)
  fin_cases a <;> exact (Nat.zero_add _).trans (Nat.one_mul _)

omit [FloatOps F] in
/-- The table window stages the whole table. -/
theorem staged_table (σ : Equiv.Perm (Fin 8)) (h : Routed m σ) (c : Dev nD) :
    (win0_1.blk t0_0).view.read (Elt F) (m ((c : Thread nD τ).loc main_arg1)) = tableOf σ := by
  rw [h c]
  funext i
  show tableOf σ _ = tableOf σ i
  refine congrArg _ (funext fun a => Fin.ext ?_)
  fin_cases a; exact (Nat.zero_add _).trans (Nat.one_mul _)

end Cert.Proof.Ideal

end
-- ==== Proof.Ideal.Cells.lean ====
/-
  The three semaphore cells of each device and what passes through them. All three are used for one round:

  * the barrier cell of `c` is signalled once, by `dst c`, and carries the result buffer of `dst c`: the right to
    write there;
  * the receive cell of `c` is paid by the transfer from `src c` and carries `c`'s result buffer with `src c`'s block;
  * the send cell of `c` is paid by `c`'s own transfer and gives its send buffer back.
-/
module

public import proofs.«01_k».proof.Proof.Ideal.Route
public import Idealize.ShloMosaic.Lib.Tactic

@[expose] public section

noncomputable section

namespace Cert.Proof.Ideal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (σ : Equiv.Perm (Fin 8)) (m : (ℓ : Loc nD τ sig) → Buf (Elt F) ℓ)

/-- The device `c` sends to, and the one it receives from. -/
def dst (c : Dev nD) : Dev nD := σ c
def src (c : Dev nD) : Dev nD := σ.symm c

theorem dst_src (c : Dev nD) : dst σ (src σ c) = c := σ.apply_symm_apply c
theorem src_dst (c : Dev nD) : src σ (dst σ c) = c := σ.symm_apply_apply c
theorem src_eq_iff (c d : Dev nD) : src σ d = c ↔ d = dst σ c :=
  ⟨fun h => by rw [← h, dst_src], fun h => by rw [h, src_dst]⟩
theorem dst_eq_iff (c d : Dev nD) : dst σ d = c ↔ d = src σ c :=
  ⟨fun h => by rw [← h, src_dst], fun h => by rw [h, dst_src]⟩

/-! ## Buffers -/

abbrev blockM : Memref sig .tc .vmem S1x512x512 .bf16 := Memref.whole cc0_stg0_0
abbrev tableM : Memref sig .tc .smem S8 .i32 := Memref.whole cc0_stg1_0
abbrev outM : Memref sig .tc .vmem S1x512x512 .bf16 := Memref.whole cc0_stg2_0
abbrev commM : Memref sig .tc .vmem S1x512x512 .bf16 := Memref.whole cc0_scratch0

/-- Device `c`'s result buffer holding `f`. -/
def outPts (c : Dev nD) (f : Buf (Elt F) (outM.view.loc (c : Thread nD τ))) : sProp 𝕄 :=
  outM.view.loc (c : Thread nD τ) ↦[outM.view.set]{fullShare} f
/-- Device `c`'s send buffer holding `f`. -/
def commPts (c : Dev nD) (f : Buf (Elt F) (commM.view.loc (c : Thread nD τ))) : sProp 𝕄 :=
  commM.view.loc (c : Thread nD τ) ↦[commM.view.set]{fullShare} f

omit [FloatOps F] in
theorem outPts_eq (c : Dev nD) (f : Buf (Elt F) ((c : Thread nD τ).loc cc0_stg2_0)) :
    outPts c f = (((c : Thread nD τ).loc cc0_stg2_0) ↦{fullShare} f : sProp 𝕄) := by
  unfold outPts; rw [View.set_whole]
omit [FloatOps F] in
theorem commPts_eq (c : Dev nD) (f : Buf (Elt F) ((c : Thread nD τ).loc cc0_scratch0)) :
    commPts c f = (((c : Thread nD τ).loc cc0_scratch0) ↦{fullShare} f : sProp 𝕄) := by
  unfold commPts; rw [View.set_whole]

omit [FloatOps F] in
instance outPts_storable (c : Dev nD) (f) : BI.Storable (upEmb : UEmb _ 𝕄) (outPts (F := F) c f) := by
  unfold outPts; infer_instance
omit [FloatOps F] in
instance commPts_storable (c : Dev nD) (f) : BI.Storable (upEmb : UEmb _ 𝕄) (commPts (F := F) c f) := by
  unfold commPts; infer_instance

omit [FloatOps F] in
/-- A transfer of a whole send buffer leaves its contents in the result buffer. -/
theorem copied (fd : (cc0_stg2_0 : Ref sig .tc).ty.Contents (Elt F)) (fs : (cc0_scratch0 : Ref sig .tc).ty.Contents (Elt F)) :
    outM.view.write (Elt F) fd (commM.view.read (Elt F) fs) Finset.univ = fs := by
  show (View.whole cc0_stg2_0).write (Elt F) fd ((View.whole cc0_scratch0).read (Elt F) fs) Finset.univ = fs
  rw [View.read_whole]
  exact View.write_whole_univ _ _ _

/-! ## Cells -/

/-- The barrier semaphore of the kernel's collective, and its two transfer semaphores. -/
abbrev barS : Sem sig := (SemArray.scalar (sig.barrier 0 rfl) : Sems sig S_).sem
abbrev sendS : DmaSem sig := cc0_scratch1.sem
abbrev recvS : DmaSem sig := cc0_scratch2.sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- What one transfer of a block credits. -/
abbrev N : ℕ := outM.view.dmaCredit
theorem N_pos : 0 < N := View.dmaCredit_pos _ (by decide)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

/-! ## The schedule -/

def barPay (c : Dev nD) : sProp 𝕄 := iprop((∃ f, outPts (dst σ c) f) ∗ reached ER (recvCell (dst σ c)) 0)
def recvPay (c : Dev nD) : sProp 𝕄 := outPts c (block m (src σ c))
def sendPay (c : Dev nD) : sProp 𝕄 := commPts c (block m c)

/-- The cells of the exchange are the TensorCores', of these three semaphores. -/
abbrev Ours (g : GSem nD τ sig) : Prop :=
  g.1.2 = .tc ∧ (g.2 = .reg barS ∨ g.2 = .dma sendS ∨ g.2 = .dma recvS)

/-- One duty in round 0 of each of them. -/
def sched : Rounds.Schedule (GSem nD τ sig) Unit 𝕄 where
  duties g r := if r = 0 ∧ Ours g then {()} else ∅
  unitless _ := False
  amount g _ _ := if g.2 = .reg barS then 1 else N
  payload g _ _ :=
    if g.2 = .reg barS then barPay σ g.1.1
    else if g.2 = .dma recvS then recvPay σ m g.1.1
    else if g.2 = .dma sendS then sendPay m g.1.1
    else iprop(emp)
  amount_pos g _ _ _ := by
    by_cases h : g.2 = .reg barS
    · rw [if_pos h]; exact Nat.one_pos
    · rw [if_neg h]; exact N_pos

instance sched_storable (g : GSem nD τ sig) (r : ℕ) (d : Unit) :
    BI.Storable (upEmb : UEmb _ 𝕄) ((sched (F := F) σ m).payload g r d) := by
  show BI.Storable upEmb (if g.2 = .reg barS then barPay σ g.1.1 else if g.2 = .dma recvS then recvPay σ m g.1.1
    else if g.2 = .dma sendS then sendPay m g.1.1 else iprop(emp))
  unfold barPay recvPay sendPay
  (repeat' split) <;> infer_instance

omit [FloatOps F]

theorem ours_bar (c : Dev nD) : Ours (barCell c) := ⟨rfl, .inl rfl⟩
theorem ours_send (c : Dev nD) : Ours (sendCell c) := ⟨rfl, .inr (.inl rfl)⟩
theorem ours_recv (c : Dev nD) : Ours (recvCell c) := ⟨rfl, .inr (.inr rfl)⟩

/-- Round 0 of a cell of the exchange has its one duty, -/
theorem duties_zero (g : GSem nD τ sig) (h : Ours g) : (sched (F := F) σ m).duties g 0 = {()} := by
  dsimp only [sched]; exact if_pos ⟨rfl, h⟩
theorem mem_duties (g : GSem nD τ sig) (h : Ours g) : () ∈ (sched (F := F) σ m).duties g 0 := by
  rw [duties_zero σ m g h]; exact Finset.mem_singleton_self _
/-- and no round has another. -/
theorem duties_later (g : GSem nD τ sig) : ∀ r, 1 ≤ r → (sched (F := F) σ m).duties g r = ∅ :=
  fun r hr => by dsimp only [sched]; exact if_neg fun h => by omega

theorem amount_bar (c : Dev nD) : (sched (F := F) σ m).amount (barCell c) 0 () = 1 := by
  dsimp only [sched]; exact if_pos rfl
theorem amount_send (c : Dev nD) : (sched (F := F) σ m).amount (sendCell c) 0 () = N := by
  dsimp only [sched]; exact if_neg send_ne_bar
theorem amount_recv (c : Dev nD) : (sched (F := F) σ m).amount (recvCell c) 0 () = N := by
  dsimp only [sched]; exact if_neg recv_ne_bar

/-- A round's expected total is its one duty's amount. -/
theorem expect_zero (g : GSem nD τ sig) (h : Ours g) :
    (sched (F := F) σ m).expect g 0 = (sched (F := F) σ m).amount g 0 () := by
  unfold Schedule.expect Schedule.amountOf; rw [duties_zero σ m g h, Finset.sum_singleton]

theorem payload_bar (c : Dev nD) : (sched (F := F) σ m).payload (barCell c) 0 () = barPay σ c := by
  dsimp only [sched]; exact if_pos rfl
theorem payload_send (c : Dev nD) : (sched (F := F) σ m).payload (sendCell c) 0 () = sendPay m c := by
  dsimp only [sched]; rw [if_neg send_ne_bar, if_neg send_ne_recv, if_pos rfl]
theorem payload_recv (c : Dev nD) : (sched (F := F) σ m).payload (recvCell c) 0 () = recvPay σ m c := by
  dsimp only [sched]; rw [if_neg recv_ne_bar, if_pos rfl]

/-- All that a round hands over is its one duty's payload. -/
theorem rest_zero (g : GSem nD τ sig) (h : Ours g) :
    bigSep ((sched (F := F) σ m).duties g 0 \ ∅) (fun d => (sched (F := F) σ m).payload g 0 d)
      = (sched (F := F) σ m).payload g 0 () := by
  rw [Finset.sdiff_empty, duties_zero σ m g h, bigSep_singleton]

/-! ## Debts and levels -/

/-- At launch device `c` owes `dst c`'s receive cell one block, and `src c`'s barrier cell one signal. -/
def owesBlock (c : Dev nD) : CellTallies nD τ sig Unit := tallyAt (recvCell (dst σ c)) () N
def owesAll (c : Dev nD) : CellTallies nD τ sig Unit := owesBlock σ c + tallyAt (barCell (src σ c)) () 1

def L (g : GSem nD τ sig) : Finset Unit := if g.1.2 = .tc then {()} else ∅
/-- Barrier cells are at level 1 and receive cells at 2; the rest are at 0. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem mem_L (c : Dev nD) (sm : SemLoc sig) : () ∈ L ((c : Thread nD τ), sm) := by
  unfold L; rw [if_pos rfl]; exact Finset.mem_singleton_self _
theorem lv_bar (c : Dev nD) : lv (barCell c) () = 1 := if_pos rfl
theorem lv_recv (c : Dev nD) : lv (recvCell c) () = 2 := (if_neg recv_ne_bar).trans (if_pos rfl)

theorem owesBlock_pos {c : Dev nD} {g : GSem nD τ sig} {u : Unit} (h : 0 < owesBlock σ c g u) : g = recvCell (dst σ c) := by
  unfold owesBlock at h
  rw [tallyAt_apply] at h
  by_contra hn
  rw [if_neg (fun h' => hn h'.1)] at h
  exact Nat.lt_irrefl 0 h
theorem owesAll_pos {c : Dev nD} {g : GSem nD τ sig} {u : Unit} (h : 0 < owesAll σ c g u) :
    g = recvCell (dst σ c) ∨ g = barCell (src σ c) := by
  unfold owesAll at h
  rw [Pi.add_apply, Finsupp.add_apply, tallyAt_apply] at h
  by_contra hn
  rw [not_or] at hn
  rw [if_neg (fun h' => hn.2 h'.1), Nat.add_zero] at h
  exact hn.1 (owesBlock_pos σ h)

/-- A staging wait is below everything a device owes. -/
theorem mayWait_stage (c : Dev nD) (q : DmaSem sig) (hq : SemLoc.dma q ≠ .dma recvS) (O : CellTallies nD τ sig Unit)
    (hO : O = owesAll σ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _)
      (fun g u hg => by rcases owesAll_pos σ hg with rfl | rfl <;> exact mem_L _ _)
      (fun p hp => by
        rw [Finset.mem_singleton.mp hp]; dsimp only [lv]; rw [if_neg (fun h => by cases h), if_neg hq])
      (fun g u hg => by
        cases u
        rcases owesAll_pos σ hg with rfl | rfl
        · rw [lv_recv]; decide
        · rw [lv_bar]; decide)
  · rw [MayWait_zero]; iintro -; iempintro

/-- The wait on its barrier cell is below the block it still owes. -/
theorem mayWait_bar (c : Dev nD) :
    (levAts L lv : sProp 𝕄) ⊢ MayWait (c : Thread nD τ) (.reg barS) () (owesBlock σ c) :=
  MayOwe.of_cut (L := L) (lev := lv) 1 (fun p hp => by rw [Finset.mem_singleton.mp hp]; exact mem_L _ _)
    (fun g u hg => by rw [owesBlock_pos σ hg]; exact mem_L _ _)
    (fun p hp => by rw [Finset.mem_singleton.mp hp, lv_bar])
    (fun g u hg => by cases u; rw [owesBlock_pos σ hg, lv_recv]; decide)

end Cert.Proof.Ideal

end
-- ==== Proof.Ideal.Body.lean ====
/-
  The body of the kernel on one device, effect by effect: it reads its table, signals the device it will receive from,
  copies its block into the send buffer, waits for the signal of the device it sends to, sends, and waits for both ends
  of the transfers. It ends with its result buffer holding the block of the device that sends to it.
-/
module

public import proofs.«01_k».proof.Proof.Ideal.Cells
public import Idealize.ShloMosaic.Lib.Pipeline.Value

@[expose] public section

noncomputable section

namespace Cert.Proof.Ideal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (σ : Equiv.Perm (Fin 8)) (m : (ℓ : Loc nD τ sig) → Buf (Elt F) ℓ)

/-! ## What a device starts and ends with -/

/-- The cells of the exchange, by device and kind. -/
abbrev csem : Fin 3 → SemLoc sig := fun | 0 => .reg barS | 1 => .dma sendS | 2 => .dma recvS
abbrev cell (ck : Dev nD × Fin 3) : GSem nD τ sig := ((ck.1 : Thread nD τ), csem ck.2)

/-- The invariants device `c` opens: of its own three cells, of the barrier it signals, of the cell it transfers to. -/
def invs (K : Dev nD × Fin 3 → ℕ) (c : Dev nD) : sProp 𝕄 :=
  iprop(cellInv ER (sched σ m) (K (c, 0)) (barCell c) ∗ cellInv ER (sched σ m) (K (c, 1)) (sendCell c)
    ∗ cellInv ER (sched σ m) (K (c, 2)) (recvCell c)
    ∗ cellInv ER (sched σ m) (K (src σ c, 0)) (barCell (src σ c)) ∗ cellInv ER (sched σ m) (K (dst σ c, 2)) (recvCell (dst σ c)))

instance invs_persistent (K : Dev nD × Fin 3 → ℕ) (c : Dev nD) : BI.Persistent (invs σ m K c) := by
  unfold invs; infer_instance

/-- The duties device `c` pays: the signal, its own send, the transfer. -/
def payToks (c : Dev nD) : sProp 𝕄 :=
  iprop(dutyTok ER (barCell (src σ c)) 0 () ∗ dutyTok ER (sendCell c) 0 () ∗ dutyTok ER (recvCell (dst σ c)) 0 ())

/-- Its place at round 0 of its own cells. -/
def places (c : Dev nD) : sProp 𝕄 :=
  iprop(atPos ER (barCell c) 0 ∅ 0 ∗ atPos ER (sendCell c) 0 ∅ 0 ∗ atPos ER (recvCell c) 0 ∅ 0)

/-- Round 0 of the cells it pays, and of its own receive cell, has been reached. -/
def marks (c : Dev nD) : sProp 𝕄 :=
  iprop(reached ER (barCell (src σ c)) 0 ∗ reached ER (sendCell c) 0 ∗ reached ER (recvCell (dst σ c)) 0
    ∗ reached ER (recvCell c) 0)

instance marks_persistent (c : Dev nD) : BI.Persistent (marks (F := F) σ c) := by unfold marks; infer_instance

/-- The exchange's ghost state of device `c`. -/
def ghost (K : Dev nD × Fin 3 → ℕ) (c : Dev nD) : sProp 𝕄 :=
  iprop(invs σ m K c ∗ marks σ c ∗ places c ∗ payToks σ c)

/-- What the body of device `c` starts from besides its buffers. -/
def start (c : Dev nD) : sProp 𝕄 :=
  iprop((∃ K, ghost σ m K c) ∗ cred (tallyAt (barCell c) () 1) ∗ cred (tallyAt (recvCell c) () N) ∗ levAts L lv)

/-- What it ends with: its send buffer, its cells closed with their counters at zero. -/
def finish (c : Dev nD) : sProp 𝕄 :=
  iprop(commPts c (block m c) ∗ semVal (barCell c) 0 ∗ semVal (sendCell c) 0 ∗ semVal (recvCell c) 0)

/-- The pipeline's data: the windows end at the device's block, the table, the received block. -/
def dats (_ : Fin 1) (c : Dev nD) : Dat τ (Elt F) Unit ℕ UU ℕ cfg0 c where
  A w := m ((cfg0.win w).arr.view.loc (c : Thread nD τ))
  after w _ := match w with
    | ⟨0, _⟩ => block m c
    | ⟨1, _⟩ => tableOf σ
    | ⟨2, _⟩ => block m (src σ c)
  Φ t := match t with
    | ⟨0, _⟩ => iprop(start σ m c ∗ ∃ f, commPts c f)
    | ⟨_ + 1, _⟩ => finish m c
  q _ := fullShare
  owed t := match t with
    | ⟨0, _⟩ => owesAll σ c
    | ⟨_ + 1, _⟩ => 0

abbrev 𝒱₀ : Variants := Variants.none

theorem before_block (c : Dev nD) (d) : (dats σ m 0 c).before (0 : Fin 3) t0_0 d = block m c := by
  unfold Dat.before; rw [if_pos (fetch0_0 t0_0)]; exact staged_block m c
theorem before_table (h : Routed m σ) (c : Dev nD) (d) : (dats σ m 0 c).before (1 : Fin 3) t0_0 d = tableOf σ := by
  unfold Dat.before; rw [if_pos (fetch0_1 t0_0)]; exact staged_table m σ h c

/-! ## The single accesses -/

abbrev whole : Rect S1x512x512 := Rect.unit (s := S1x512x512) ![0, 0, 0] S1x512x512.size inb_S1x512x512_S1x512x512_0_0_0

omit [FloatOps F] in
theorem origin : (![0, 0, 0] : Fin 3 → Nat) = fun _ => 0 := funext fun a => by fin_cases a <;> rfl
omit [FloatOps F] in
theorem read_block (f : (cc0_stg0_0 : Ref sig .tc).ty.Contents (Elt F)) : blockM.view.readAt (Elt F) whole.toLoadRect f = f :=
  Memref.readAt_unit_zero (Elt F) cc0_stg0_0 origin _ f
omit [FloatOps F] in
theorem write_comm (f w : (cc0_scratch0 : Ref sig .tc).ty.Contents (Elt F)) :
    (commM.access whole : View sig .tc _ _ _).write (Elt F) f w Finset.univ = w :=
  Memref.write_access_unit_zero_univ (Elt F) cc0_scratch0 origin _ f w
/-- The store puts the block there as it was read: the two reshapes undo each other. -/
theorem pay_eq (v : Vec F S1x512x512 .bf16) : k0_pay1 v = v := by
  unfold k0_pay1
  exact shapeCast_shapeCast _ _ _

/-- The word the body reads from the table at offset `off`. -/
abbrev wordAt (off : Fin 1 → Nat) (h : ∀ a, off a + S1.size a ≤ S8.size a) (t : IVec S8 32) : BitVec 32 :=
  (tableM.access (Rect.unit (s := S8) off S1.size h) : View sig .tc _ _ _).read (Elt F) t
    (Shape.Idx.first (s := S1) (numel1_S1.symm ▸ Nat.one_pos))

omit [FloatOps F] in
theorem wordAt_eq (j : Fin 8) (off : Fin 1 → Nat) (h : ∀ a, off a + S1.size a ≤ S8.size a) (ho : off = ![j.val]) :
    wordAt (F := F) off h (tableOf σ) = devWord (σ j) := by
  subst ho
  rw [← tableOf_at8]
  show tableOf σ _ = _
  refine congrArg _ (funext fun a => Fin.ext ?_)
  fin_cases a; fin_cases j <;> rfl

omit [FloatOps F] in
/-- Its own entry, by which it sends. -/
theorem own_word (c : Dev nD) : wordAt (F := F) (k0_off1 c) (k0_off1_inb c) (tableOf σ) = devWord (dst σ c) :=
  wordAt_eq σ c _ _ (k0_off1_eq c)

omit [FloatOps F] in
/-- The eight entries, by which it signals. -/
theorem all_words (c : Dev nD) (h') :
    (⟨k0_dev1 c (wordAt (F := F) ![0] inb_S8_S1_0 (tableOf σ)) (wordAt (F := F) ![1] inb_S8_S1_1 (tableOf σ))
      (wordAt (F := F) ![2] inb_S8_S1_2 (tableOf σ)) (wordAt (F := F) ![3] inb_S8_S1_3 (tableOf σ))
      (wordAt (F := F) ![4] inb_S8_S1_4 (tableOf σ)) (wordAt (F := F) ![5] inb_S8_S1_5 (tableOf σ))
      (wordAt (F := F) ![6] inb_S8_S1_6 (tableOf σ)) (wordAt (F := F) ![7] inb_S8_S1_7 (tableOf σ)), h'⟩ : Dev nD) = src σ c := by
  refine Fin.ext (Eq.trans ?_ (signal_dev σ c))
  show k0_dev1 c _ _ _ _ _ _ _ _ = _
  congr 1 <;> exact wordAt_eq σ _ _ _ rfl

section Steps

variable (K : Dev nD × Fin 3 → ℕ) (W : Waits sig Unit)

/-- The signal to `src c`: hands over `c`'s result buffer. -/
theorem wp_signal_src (c n : Dev nD) (hn : n = src σ c) (f : Buf (Elt F) (outM.view.loc (c : Thread nD τ)))
    {α : Type} {Q : α → sProp 𝕄} {k : PUnit → Prog (TpuEff nD τ sig (Elt F) Λ₀ .tc) α} :
    iprop(cellInv ER (sched σ m) (K (src σ c, 0)) (barCell (src σ c)) ∗ owes (c : Thread nD τ) (owesAll σ c) W
        ∗ dutyTok ER (barCell (src σ c)) 0 () ∗ reached ER (barCell (src σ c)) 0 ∗ outPts c f ∗ reached ER (recvCell c) 0)
      ⊢ iprop((owes (c : Thread nD τ) (owesBlock σ c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n) barS (1#32 : BitVec 32).toInt) k) Q) := by
  subst hn
  rw [show (1#32 : BitVec 32).toInt = ((1#32 : BitVec 32).toNat : Int) from rfl]
  iintro ⟨HI, HO, Ht, Hr, Hout, Hv⟩ Hk
  iapply (Rounds.wp_signal 𝒱₀ ER (sched σ m) (c : Thread nD τ) none (dst := (src σ c : Thread nD τ)) (κ := K (src σ c, 0))
      (mem_duties σ m _ (ours_bar _)) ((amount_bar σ m (src σ c)).trans (by decide)) () (owesBlock σ c) rfl) $$ [HI HO Ht Hr Hout Hv]
  · isplitl [HI]; · iexact HI
    isplitl [HO]; · iexact HO
    isplitl [Ht]; · iexact Ht
    isplitl [Hout Hv]
    · rw [payload_bar]; unfold barPay; rw [dst_src]
      isplitl [Hout]; · iexists f; iexact Hout
      iexact Hv
    iexact Hr
  iexact Hk

/-- The transfer to `dst c`: the send buffer goes to the send cell, `dst c`'s result buffer to its receive cell. -/
theorem wp_send_dst (c n : Dev nD) (hn : n = dst σ c)
    {hsc : (outM : Memref sig (Dev.tc n : Thread nD τ).2.kind .vmem S1x512x512 .bf16).view.ref.isScScratch = false}
    {hsrc : commM.view.WordExact} {hdst : outM.view.WordExact}
    {hsem : DmaTarget.Typed .vmem (.dma recvS) (.remote (Dev.tc n : Thread nD τ) outM (.dma sendS) hsc)}
    {α : Type} {Q : α → sProp 𝕄} {k : PUnit → Prog (TpuEff nD τ sig (Elt F) Λ₀ .tc) α} (fn : Buf (Elt F) (outM.view.loc (dst σ c : Thread nD τ))) :
    iprop(cellInv ER (sched σ m) (K (c, 1)) (sendCell c) ∗ cellInv ER (sched σ m) (K (dst σ c, 2)) (recvCell (dst σ c))
        ∗ commPts c (block m c) ∗ outPts (dst σ c) fn
        ∗ owes (c : Thread nD τ) (owesBlock σ c) W
        ∗ dutyTok ER (sendCell c) 0 () ∗ reached ER (sendCell c) 0
        ∗ dutyTok ER (recvCell (dst σ c)) 0 () ∗ reached ER (recvCell (dst σ c)) 0)
      ⊢ iprop(((cred (tallyAt (sendCell c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma commM (.remote (Dev.tc n : Thread nD τ) outM (.dma sendS) hsc) (.dma recvS) hsrc hdst hsem) k) Q) := by
  subst hn
  unfold commPts outPts
  exact Rounds.wp_send_pointsTo 𝒱₀ ER (sched σ m) (c : Thread nD τ) none (κ₁ := K (c, 1)) (κ₂ := K (dst σ c, 2))
    (r₁ := 0) (r₂ := 0) (d₁ := ()) (d₂ := ()) (fd := fn)
    (mem_duties σ m _ (ours_send c)) (mem_duties σ m _ (ours_recv _))
    () () N rfl (amount_send σ m c) (amount_recv σ m (dst σ c)) 0 (by unfold owesBlock; rw [zero_add]) (W := W)
    (by rw [payload_send]; exact BI.Entails.refl _)
    (by rw [payload_recv]; unfold recvPay outPts; rw [copied, src_dst])

/-- The wait on its own barrier: `dst c`'s result buffer comes with it. -/
theorem wp_wait_bar (c : Dev nD) {α : Type} {Q : α → sProp 𝕄} {k : PUnit → Prog (TpuEff nD τ sig (Elt F) Λ₀ .tc) α} :
    iprop(cellInv ER (sched σ m) (K (c, 0)) (barCell c) ∗ cred (tallyAt (barCell c) () 1)
        ∗ owes (c : Thread nD τ) (owesBlock σ c) W ∗ levAts L lv ∗ atPos ER (barCell c) 0 ∅ 0)
      ⊢ iprop(((owes (c : Thread nD τ) (owesBlock σ c) (insert (SemLoc.reg barS, ()) W) ∗ atPos ER (barCell c) (0 + 1) ∅ 0
              ∗ (∃ f, outPts (dst σ c) f))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (1#32 : BitVec 32).toInt) k) Q) := by
  rw [show (1#32 : BitVec 32).toInt = ((1#32 : BitVec 32).toNat : Int) from rfl]
  iintro ⟨#HI, Hc, HO, #Hlev, Hat⟩ Hk
  iapply (Rounds.wp_wait_rest_token 𝒱₀ ER (sched σ m) (c : Thread nD τ) none (κ := K (c, 0))
      (wpE_semWait_eq 𝒱₀ (c : Thread nD τ) none Set.univ) (Set.mem_univ _) () (O := owesBlock σ c) (W := W) (R := 0) (m := 0) (T := ∅)
      (by rw [expect_zero σ m _ (ours_bar c), amount_bar]; decide)) $$ [Hc HO Hat]
  · isplitr; · iexact HI
    isplitl [Hc]; · iexact Hc
    isplitl [HO]; · iexact HO
    isplitr; · iapply (mayWait_bar σ c); iexact Hlev
    iexact Hat
  iintro ⟨HO, Hat, -, Hpay⟩
  ihave Hp := (Entails.of_eq ((rest_zero σ m _ (ours_bar c)).trans (payload_bar σ m c))) $$ Hpay
  unfold barPay
  icases Hp with ⟨Hf, -⟩
  iapply Hk
  isplitl [HO]; · iexact HO
  isplitl [Hat] <;> iassumption

/-- A wait for a whole transfer on the send or the receive cell, owing nothing: the payload comes with it. -/
theorem wp_wait_dma (c : Dev nD) (s : DmaSem sig) (κ : ℕ) (P : sProp 𝕄) (hs : Ours ((c : Thread nD τ), .dma s))
    (hN : (sched (F := F) σ m).amount ((c : Thread nD τ), .dma s) 0 () = N)
    (hP : (sched (F := F) σ m).payload ((c : Thread nD τ), .dma s) 0 () = P)
    {sp sp' : CoreSpace} {A : Memref sig .tc sp S1x512x512 .bf16} {B : Memref sig .tc sp' S1x512x512 .bf16}
    {hA : A.view.WordExact} {hB : B.view.WordExact} (hB' : B.view.dmaCredit = N)
    {α : Type} {Q : α → sProp 𝕄} {k : PUnit → Prog (TpuEff nD τ sig (Elt F) Λ₀ .tc) α} :
    iprop(cellInv ER (sched σ m) κ ((c : Thread nD τ), .dma s) ∗ cred (tallyAt ((c : Thread nD τ), .dma s) () N)
        ∗ owes (c : Thread nD τ) 0 W ∗ atPos ER ((c : Thread nD τ), .dma s) 0 ∅ 0)
      ⊢ iprop(((owes (c : Thread nD τ) 0 (insert (SemLoc.dma s, ()) W) ∗ atPos ER ((c : Thread nD τ), .dma s) (0 + 1) ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s A B hA hB) k) Q) := by
  subst hP
  iintro ⟨#HI, Hc, HO, Hat⟩ Hk
  iapply (Rounds.wp_wait_rest_token 𝒱₀ ER (sched σ m) (c : Thread nD τ) none (κ := κ)
      (wpE_waitDma2_eq 𝒱₀ (c : Thread nD τ) none Set.univ) (Set.mem_univ _) () (O := 0) (W := W) (R := 0) (m := 0) (T := ∅)
      (by rw [Nat.zero_add, expect_zero σ m _ hs, hN, hB'])) $$ [Hc HO Hat]
  · isplitr; · iexact HI
    isplitl [Hc]; · rw [hB']; iexact Hc
    isplitl [HO]; · iexact HO
    isplitr; · rw [MayWait_zero]; iempintro
    iexact Hat
  iintro ⟨HO, Hat, -, Hpay⟩
  ihave Hp := (Entails.of_eq (rest_zero σ m _ hs)) $$ Hpay
  iapply Hk
  isplitl [HO]; · iexact HO
  isplitl [Hat] <;> iassumption

end Steps

/-! ## The body -/

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Before the body: the exchange's state, the send buffer, and the three staging buffers. -/
def bodyPre (c : Dev nD) : sProp 𝕄 :=
  iprop((start σ m c ∗ ∃ f, commPts c f) ∗ (dats σ m 0 c).owesAt () t0_0.castSucc
    ∗ (∃ d, stg c cc0_stg0_0 ((dats σ m 0 c).before (0 : Fin 3) t0_0 d))
    ∗ (∃ d, stg c cc0_stg1_0 ((dats σ m 0 c).before (1 : Fin 3) t0_0 d))
    ∗ (∃ d, stg c cc0_stg2_0 ((dats σ m 0 c).before (2 : Fin 3) t0_0 d)))

/-- After it: the cells closed, and the result buffer holding `src c`'s block. -/
def bodyPost (c : Dev nD) : sProp 𝕄 :=
  iprop(finish m c ∗ (dats σ m 0 c).owesAt () t0_0.succ
    ∗ stg c cc0_stg0_0 (block m c) ∗ stg c cc0_stg1_0 (tableOf σ) ∗ stg c cc0_stg2_0 (block m (src σ c)))

set_option maxHeartbeats 4000000 in
/-- The body runs from the one to the other. -/
theorem body_runs (h : Routed m σ) (c : Dev nD) (Kt : PUnit → sProp 𝕄) :
    iprop(bodyPre σ m c ∗ (bodyPost σ m c -∗ Kt ⟨⟩))
      ⊢ wp frame (wpE (defs₀ (F := F)) 𝒱₀ c none) Set.univ
          (cc0_body blockM (Memref.isWhole_whole _) tableM (Memref.isWhole_whole _) outM (Memref.isWhole_whole _)
            commM (Memref.isWhole_whole _) cc0_scratch1 cc0_scratch2) Kt := by
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret,
    Prog.bind_assoc, wp_deviceId]
  unfold bodyPre start ghost invs marks places payToks
  iintro ⟨⟨⟨⟨⟨%K, ⟨#HIb, #HIs, #HIv, #HIbS, #HIvD⟩, ⟨#HrbS, #Hrs, #HrvD, #Hrv⟩, ⟨Hab, Has, Hav⟩, HtbS, Hts, HtvD⟩, Hcb, Hcv, #Hlev⟩, ⟨%fc, Hcomm⟩⟩,
    Ho, ⟨%d0, %g0, %hg0, Hx⟩, ⟨%d1, %g1, %hg1, Ht⟩, ⟨%d2, %g2, %hg2, Hout⟩⟩, Hk⟩
  rw [before_block] at hg0
  rw [before_table σ m h] at hg1
  subst hg0
  subst hg1
  unfold Dat.owesAt Pipeline.owesWithin
  icases Ho with ⟨%W, %hW, HO⟩
  rw [show (dats σ m 0 c).owed t0_0.castSucc = owesAll σ c from rfl]
  -- its own entry of the table, and that it names a device
  iapply (wp_load_rect 𝒱₀ (c : Thread nD τ) none Set.univ (m := tableM) (r := Rect.unit (s := S8) (k0_off1 c) S1.size (k0_off1_inb c)) (Finset.subset_univ _)) $$ Ht; iintro Ht
  have hown := own_word (F := F) σ c
  simp only [wp_assume_of _ _ _ _ (d := k0_chk2.dec _) (show k0_chk2 _ from hown ▸ send_ok (dst σ c))]
  -- the eight entries, the side condition of the search through them, and the signal to the device it names
  iapply (wp_load_rect 𝒱₀ (c : Thread nD τ) none Set.univ (m := tableM) (r := Rect.unit (s := S8) ![0] S1.size inb_S8_S1_0) (Finset.subset_univ _)) $$ Ht; iintro Ht
  iapply (wp_load_rect 𝒱₀ (c : Thread nD τ) none Set.univ (m := tableM) (r := Rect.unit (s := S8) ![1] S1.size inb_S8_S1_1) (Finset.subset_univ _)) $$ Ht; iintro Ht
  iapply (wp_load_rect 𝒱₀ (c : Thread nD τ) none Set.univ (m := tableM) (r := Rect.unit (s := S8) ![2] S1.size inb_S8_S1_2) (Finset.subset_univ _)) $$ Ht; iintro Ht
  iapply (wp_load_rect 𝒱₀ (c : Thread nD τ) none Set.univ (m := tableM) (r := Rect.unit (s := S8) ![3] S1.size inb_S8_S1_3) (Finset.subset_univ _)) $$ Ht; iintro Ht
  iapply (wp_load_rect 𝒱₀ (c : Thread nD τ) none Set.univ (m := tableM) (r := Rect.unit (s := S8) ![4] S1.size inb_S8_S1_4) (Finset.subset_univ _)) $$ Ht; iintro Ht
  iapply (wp_load_rect 𝒱₀ (c : Thread nD τ) none Set.univ (m := tableM) (r := Rect.unit (s := S8) ![5] S1.size inb_S8_S1_5) (Finset.subset_univ _)) $$ Ht; iintro Ht
  iapply (wp_load_rect 𝒱₀ (c : Thread nD τ) none Set.univ (m := tableM) (r := Rect.unit (s := S8) ![6] S1.size inb_S8_S1_6) (Finset.subset_univ _)) $$ Ht; iintro Ht
  iapply (wp_load_rect 𝒱₀ (c : Thread nD τ) none Set.univ (m := tableM) (r := Rect.unit (s := S8) ![7] S1.size inb_S8_S1_7) (Finset.subset_univ _)) $$ Ht; iintro Ht
  simp only [wp_assume_of _ _ _ _ (d := k0_chk1.dec _ _ _ _ _ _ _ _ _) (k0_chk1_all _ _ _ _ _ _ _ _ _)]
  iapply (wp_signal_src σ m K W c _ (all_words σ c _) g2) $$ [HO HtbS Hout]
  · isplitr; · iexact HIbS
    isplitl [HO]; · iexact HO
    isplitl [HtbS]; · iexact HtbS
    isplitr; · iexact HrbS
    isplitl [Hout]; · rw [outPts_eq]; iexact Hout
    iexact Hrv
  iintro HO
  -- its block goes to the send buffer
  iapply (wp_load 𝒱₀ (c : Thread nD τ) none Set.univ (m := blockM) (Finset.subset_univ _)) $$ Hx; iintro Hx
  rw [read_block]
  ihave Hcomm := (Entails.of_eq (commPts_eq c fc)) $$ Hcomm
  iapply (wp_load 𝒱₀ (c : Thread nD τ) none Set.univ (m := commM) (Finset.subset_univ _)) $$ Hcomm; iintro Hcomm
  iapply (wp_store 𝒱₀ (c : Thread nD τ) none Set.univ (m := commM) (r := whole) (Mk := Finset.univ) (Finset.subset_univ _)) $$ Hcomm; iintro Hcomm
  rw [write_comm, pay_eq]
  -- the signal of the device it sends to, and the transfer there
  iapply (wp_wait_bar σ m K W c) $$ [Hcb HO Hab]
  · isplitr; · iexact HIb
    isplitl [Hcb]; · iexact Hcb
    isplitl [HO]; · iexact HO
    isplitr; · iexact Hlev
    iexact Hab
  iintro ⟨HO, Hab, ⟨%fn, Hdst⟩⟩
  iapply (wp_send_dst σ m K (insert (SemLoc.reg barS, ()) W) c _ (Fin.ext (by
    show k0_dev2 (wordAt (F := F) (k0_off1 c) (k0_off1_inb c) (tableOf σ)) = _
    rw [hown, send_dev])) fn) $$ [Hcomm Hdst HO Hts HtvD]
  · isplitr; · iexact HIs
    isplitr; · iexact HIvD
    isplitl [Hcomm]; · rw [commPts_eq]; iexact Hcomm
    isplitl [Hdst]; · iexact Hdst
    isplitl [HO]; · iexact HO
    isplitl [Hts]; · iexact Hts
    isplitr; · iexact Hrs
    isplitl [HtvD]; · iexact HtvD
    iexact HrvD
  iintro ⟨Hcs, HO⟩
  -- both ends have completed
  iapply (wp_wait_dma σ m (insert (SemLoc.reg barS, ()) W) c sendS (K (c, 1)) (sendPay m c) (ours_send c)
    (amount_send σ m c) (payload_send σ m c) (A := outM) (B := commM) rfl) $$ [Hcs HO Has]
  · isplitr; · iexact HIs
    isplitl [Hcs]; · iexact Hcs
    isplitl [HO] <;> iassumption
  iintro ⟨HO, Has, Hcomm⟩
  iapply (wp_wait_dma σ m _ c recvS (K (c, 2)) (recvPay σ m c) (ours_recv c)
    (amount_recv σ m c) (payload_recv σ m c) (A := commM) (B := outM) rfl) $$ [Hcv HO Hav]
  · isplitr; · iexact HIv
    isplitl [Hcv]; · iexact Hcv
    isplitl [HO] <;> iassumption
  iintro ⟨HO, Hav, Hout⟩
  -- the cells close
  imod (Rounds.cell_close ER (sched σ m) (Set.mem_univ (K (c, 0))) (fun h => h) (R := 0 + 1) (duties_later σ m (barCell c))) $$ [Hab] with Hzb
  · isplitr; · iexact HIb
    iexact Hab
  imod (Rounds.cell_close ER (sched σ m) (Set.mem_univ (K (c, 1))) (fun h => h) (R := 0 + 1) (duties_later σ m (sendCell c))) $$ [Has] with Hzs
  · isplitr; · iexact HIs
    iexact Has
  imod (Rounds.cell_close ER (sched σ m) (Set.mem_univ (K (c, 2))) (fun h => h) (R := 0 + 1) (duties_later σ m (recvCell c))) $$ [Hav] with Hzv
  · isplitr; · iexact HIv
    iexact Hav
  rw [wp_ret]; imodintro
  iapply Hk
  unfold bodyPost finish sendPay recvPay Dat.owesAt Pipeline.owesWithin
  rw [show (dats σ m 0 c).owed t0_0.succ = 0 from rfl]
  isplitl [Hcomm Hzb Hzs Hzv]
  · isplitl [Hcomm]; · iexact Hcomm
    isplitl [Hzb]; · iexact Hzb
    isplitl [Hzs] <;> iassumption
  isplitl [HO]
  · iexists (insert (SemLoc.dma recvS, ()) (insert (SemLoc.dma sendS, ()) (insert (SemLoc.reg barS, ()) W)))
    isplitr; · ipureintro; exact fun _ _ => Or.inl trivial
    iexact HO
  isplitl [Hx]
  · iexists _; isplitr; · (ipureintro; rfl)
    iexact Hx
  isplitl [Ht]
  · iexists _; isplitr; · (ipureintro; rfl)
    iexact Ht
  iexists _; isplitr; · (ipureintro; rfl)
  ihave Hout := (Entails.of_eq (outPts_eq c (block m (src σ c)))) $$ Hout
  iexact Hout

set_option maxRecDepth 4000 in
/-- So the pipeline's one step does what its data say. -/
theorem body_obligation (h : Routed m σ) (c : Dev nD) :
    BodyObligation (dats σ m 0 c) (defs₀ (F := F)) 𝒱₀ () Set.univ := fun t => by
  rw [fin_N0 t, bigSep_W0, bigSep_W0]
  simp only [owns_whole]
  show bodyPre σ m c ⊢ wp frame (wpE (defs₀ (F := F)) 𝒱₀ c none) Set.univ
    (cc0_body blockM (Memref.isWhole_whole _) tableM (Memref.isWhole_whole _) outM (Memref.isWhole_whole _)
      commM (Memref.isWhole_whole _) cc0_scratch1 cc0_scratch2) (fun _ => bodyPost σ m c)
  iintro H
  iapply (body_runs σ m h c fun _ => bodyPost σ m c)
  isplitl [H]; · iexact H
  iintro H; iexact H

end Cert.Proof.Ideal

end
-- ==== Proof.Ideal.Launch.lean ====
/-
  The launch of the exchange on all eight devices, and what it leaves: every device's result array holds the block of the
  device that sends to it, its arguments are unchanged, and every semaphore counter is at zero.
-/
module

public import proofs.«01_k».proof.Proof.Ideal.Body
public import Idealize.ShloMosaic.Lib.Pipeline.CollectiveSegs
public import Idealize.ShloMosaic.Lib.Pipeline.ValueKit.Geometry
public import Idealize.ShloMosaic.Lib.Tactic

@[expose] public section

noncomputable section

namespace Cert.Proof.Ideal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (σ : Equiv.Perm (Fin 8)) (m : (ℓ : Loc nD τ sig) → Buf (Elt F) ℓ) (ρ : Dev nD → PrngReg)

/-! ## The launch's resources -/

/-- The semaphores the kernel allocates itself. -/
abbrev osem : Fin 2 → SemLoc sig := fun | 0 => .dma sendS | 1 => .dma recvS
theorem ownSemFacts : Pipeline.OwnSemFacts cfg0.spec osem := by decide

theorem full_share (c : Dev nD) (w : Fin cfg0.W) : (dats σ m 0 c).share w = fullShare := by
  unfold Dat.share; split <;> rfl

theorem cell_injective : Function.Injective cell := by
  rintro ⟨c, k⟩ ⟨c', k'⟩ h
  obtain rfl : c = c' := congrArg (fun g : GSem nD τ sig => g.1.1) h
  have hk : csem k = csem k' := congrArg Prod.snd h
  refine Prod.ext rfl ?_
  fin_cases k <;> fin_cases k' <;> first | rfl | exact absurd hk (by decide)

/-- All cells of the exchange, and the one duty of each. -/
def allCells : Finset (GSem nD τ sig) := Finset.univ.map ⟨cell, cell_injective⟩
def allDuties : Finset (GSem nD τ sig × ℕ × Unit) :=
  Finset.univ.map ⟨fun ck : Dev nD × Fin 3 => (cell ck, 0, ()), fun _ _ h => cell_injective (congrArg Prod.fst h)⟩

def u₀ : UU :=
  (initOf (Pipeline.cells cfgs cellOf_inj) (Pipeline.launchToks cfgs cellOf_inj), initOf allCells allDuties)

/-- The duties on device `c`'s own cells. -/
def ownToks (c : Dev nD) : sProp 𝕄 :=
  iprop(dutyTok ER (barCell c) 0 () ∗ dutyTok ER (sendCell c) 0 () ∗ dutyTok ER (recvCell c) 0 ())

/-- What the launch hands device `c`, before and after the devices share their records. -/
def G (c : Dev nD) : sProp 𝕄 :=
  iprop((bigSep Finset.univ fun k : Fin 3 => roundState ER (sched σ m) (cell (c, k)) 0)
    ∗ (bigSep Finset.univ fun k : Fin 3 => iprop(atPos ER (cell (c, k)) 0 ∅ 0 ∗ reached ER (cell (c, k)) 0)) ∗ ownToks c)
def G' (c : Dev nD) : sProp 𝕄 := iprop(∃ K, ghost σ m K c)

omit [FloatOps F] in
theorem sep_three (Φ : Fin 3 → sProp 𝕄) : bigSep Finset.univ Φ = iprop(Φ 0 ∗ Φ 1 ∗ Φ 2) :=
  bigSep_univ_eq_bigSepL [0, 1, 2] (by decide) (by decide) Φ

/-- The launch element makes every cell's round state and deals every device its own. -/
theorem fund_cells : BI.own (ER (initOf allCells allDuties)) ⊢ (|==> bigSep Finset.univ (G σ m) : sProp 𝕄) := by
  have hX (Φ : GSem nD τ sig → sProp 𝕄) : bigSep allCells Φ
      = bigSep Finset.univ fun c : Dev nD => bigSep Finset.univ fun k : Fin 3 => Φ (cell (c, k)) := by
    unfold allCells; rw [bigSep_map, bigSep_univ_prod]; rfl
  have hT : bigSep allDuties (fun x => (dutyTok ER x.1 x.2.1 x.2.2 : sProp 𝕄))
      = bigSep Finset.univ fun c : Dev nD => ownToks c := by
    unfold allDuties; rw [bigSep_map, bigSep_univ_prod]
    exact bigSep_congr fun c _ => by unfold ownToks; rw [sep_three]; rfl
  iintro HX
  imod (Rounds.fund ER (sched σ m) allCells allDuties) $$ HX with ⟨Hst, Hr, Hat, Htok⟩
  imodintro
  ihave Hst := (Entails.of_eq (hX fun g => roundState ER (sched σ m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem ownSems_list (c : Dev nD) :
    (Pipeline.ownSems0 (Ix := Unit) (Name := ℕ) (U := UU) (Lvl := ℕ) (Val := Elt F) (τ := τ) osem c : sProp 𝕄)
      = iprop(semVal (sendCell c) 0 ∗ semVal (recvCell c) 0) := by
  rw [Pipeline.ownSems0_eq_of_list c osem [0, 1] (by decide) (by decide)]; rfl
omit [FloatOps F] in
theorem unscopedSems_list (c : Dev nD) : (unscopedSems0 c : sProp 𝕄) = semVal (barCell c) 0 := by
  unfold unscopedSems0; rw [bigSep_eq_bigSepL_of_eq [SemLoc.reg barS] (by decide) (by decide)]; rfl

/-- One device's counters become its cells' invariants. -/
theorem alloc_cells (c : Dev nD) :
    iprop(Pipeline.ownSems0 (Ix := Unit) (Name := ℕ) (U := UU) (Lvl := ℕ) (Val := Elt F) (τ := τ) osem c ∗ unscopedSems0 c ∗ G σ m c)
      ⊢ |={Set.univ}=> iprop((bigSep Finset.univ fun k => iprop(∃ κ : ℕ, cellInv ER (sched σ m) κ (cell (c, k))))
          ∗ (bigSep Finset.univ fun k => iprop(atPos ER (cell (c, k)) 0 ∅ 0 ∗ reached ER (cell (c, k)) 0)) ∗ ownToks c) := by
  rw [ownSems_list, unscopedSems_list]
  unfold G
  iintro ⟨⟨HS, HV⟩, HB, Hst, Hat, Htok⟩
  imod (show iprop((bigSep Finset.univ fun k : Fin 3 => semVal (cell (c, k)) 0) ∗ bigSep Finset.univ fun k : Fin 3 => roundState ER (sched σ m) (cell (c, k)) 0)
      ⊢ (|={Set.univ}=> bigSep Finset.univ fun k => iprop(∃ κ : ℕ, cellInv ER (sched σ m) κ (cell (c, k))) : sProp 𝕄) from by
        rw [← bigSep_sep']
        exact (bigSep_mono fun k _ => (Rounds.body_intro ER (sched σ m) (cell (c, k))).trans inv_alloc).trans (bigSep_fupd _ _)) $$ [HS HV HB Hst] with Hinv
  · isplitr [Hst]
    · rw [sep_three]
      isplitl [HB]; · iexact HB
      isplitl [HS] <;> iassumption
    · iexact Hst
  imodintro
  isplitl [Hinv]; · iexact Hinv
  isplitl [Hat]; · iexact Hat
  iexact Htok

/-- What every device may know: all the invariants, and that round 0 of every cell has been reached. -/
def records (K : Dev nD × Fin 3 → ℕ) : sProp 𝕄 :=
  iprop((bigSep Finset.univ fun ck : Dev nD × Fin 3 => cellInv ER (sched σ m) (K ck) (cell ck))
    ∗ bigSep Finset.univ fun ck : Dev nD × Fin 3 => reached ER (cell ck) 0)

instance records_persistent (K : Dev nD × Fin 3 → ℕ) : BI.Persistent (records σ m K) := by unfold records; infer_instance

theorem inv_of (K : Dev nD × Fin 3 → ℕ) (ck : Dev nD × Fin 3) : records σ m K ⊢ cellInv ER (sched σ m) (K ck) (cell ck) := by
  unfold records
  iintro ⟨H, -⟩
  iapply (show (bigSep Finset.univ fun ck : Dev nD × Fin 3 => (cellInv ER (sched σ m) (K ck) (cell ck) : sProp 𝕄)) ⊢ cellInv ER (sched σ m) (K ck) (cell ck)
    from bigSep_elim (Finset.mem_univ ck))
  iexact H
theorem mark_of (K : Dev nD × Fin 3 → ℕ) (ck : Dev nD × Fin 3) : records σ m K ⊢ reached ER (cell ck) 0 := by
  unfold records
  iintro ⟨-, H⟩
  iapply (show (bigSep Finset.univ fun ck : Dev nD × Fin 3 => (reached ER (cell ck) 0 : sProp 𝕄)) ⊢ reached ER (cell ck) 0
    from bigSep_elim (Finset.mem_univ ck))
  iexact H

/-- From the records, a device's places and the duties it pays, its ghost state. -/
theorem ghost_of (K : Dev nD × Fin 3 → ℕ) (c : Dev nD) :
    iprop(records σ m K ∗ places c ∗ payToks σ c) ⊢ G' σ m c := by
  unfold G' ghost invs marks
  iintro ⟨#H, Hp, Ht⟩
  iexists K
  isplitr
  · isplitr; · iapply (inv_of σ m K (c, 0)); iexact H
    isplitr; · iapply (inv_of σ m K (c, 1)); iexact H
    isplitr; · iapply (inv_of σ m K (c, 2)); iexact H
    isplitr; · iapply (inv_of σ m K (src σ c, 0)); iexact H
    iapply (inv_of σ m K (dst σ c, 2)); iexact H
  isplitr
  · isplitr; · iapply (mark_of σ m K (src σ c, 0)); iexact H
    isplitr; · iapply (mark_of σ m K (c, 1)); iexact H
    isplitr; · iapply (mark_of σ m K (dst σ c, 2)); iexact H
    iapply (mark_of σ m K (c, 2)); iexact H
  isplitl [Hp] <;> iassumption

omit [FloatOps F] in
/-- The duties dealt to who pays them: a barrier's to the device its owner sends to, a receive cell's to the device that
    sends to its owner. -/
theorem toks_dealt : (bigSep Finset.univ fun c : Dev nD => (ownToks c : sProp 𝕄))
    ⊢ bigSep Finset.univ fun c : Dev nD => payToks σ c := by
  unfold ownToks payToks
  rw [bigSep_sep', bigSep_sep', bigSep_sep', bigSep_sep',
    bigSep_univ_equiv σ.symm (fun c : Dev nD => (dutyTok ER (barCell c) 0 () : sProp 𝕄)),
    bigSep_univ_equiv σ (fun c : Dev nD => (dutyTok ER (recvCell c) 0 () : sProp 𝕄))]
  iintro ⟨H1, H2, H3⟩
  isplitl [H1]; · iexact H1
  isplitl [H2]; · iexact H2
  iexact H3

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' shares regrouped: the records go to all, the duties to who pays them. -/
theorem share_out :
    (bigSep Finset.univ fun c : Dev nD => iprop((bigSep Finset.univ fun k => iprop(∃ κ : ℕ, cellInv ER (sched σ m) κ (cell (c, k))))
          ∗ (bigSep Finset.univ fun k => iprop(atPos ER (cell (c, k)) 0 ∅ 0 ∗ reached ER (cell (c, k)) 0)) ∗ ownToks c) : sProp 𝕄)
      ⊢ bigSep Finset.univ (G' σ m) := by
  rw [bigSep_sep', bigSep_sep', ← bigSep_univ_prod (fun ck : Dev nD × Fin 3 => iprop(∃ κ : ℕ, cellInv ER (sched σ m) κ (cell ck))),
    bigSep_congr (s := Finset.univ) (fun (c : Dev nD) _ => bigSep_sep' Finset.univ (fun k : Fin 3 => (atPos ER (cell (c, k)) 0 ∅ 0 : sProp 𝕄)) (fun k => reached ER (cell (c, k)) 0)),
    bigSep_sep', ← bigSep_univ_prod (fun ck : Dev nD × Fin 3 => (reached ER (cell ck) 0 : sProp 𝕄))]
  iintro ⟨HI, ⟨Hat, #HR⟩, Htok⟩
  ihave HK := (BI.bigSep_exists_pi Finset.univ (fun (ck : Dev nD × Fin 3) (κ : ℕ) => (cellInv ER (sched σ m) κ (cell ck) : sProp 𝕄))) $$ HI
  icases HK with ⟨%K, #HI⟩
  ihave Htk := (toks_dealt (F := F) σ) $$ Htok
  iapply (with_persistent (R := records σ m K) fun c _ => ghost_of σ m K c)
  isplitr
  · unfold records; isplitl; · iexact HI
    iexact HR
  · iapply ((Entails.of_eq (bigSep_sep' Finset.univ (fun c : Dev nD => bigSep Finset.univ fun k : Fin 3 => (atPos ER (cell (c, k)) 0 ∅ 0 : sProp 𝕄)) (payToks σ)).symm).trans
      (bigSep_mono fun c _ => show _ ⊢ iprop(places c ∗ payToks σ c) from Entails.of_eq (by unfold places; rw [sep_three])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G σ m c) : sProp 𝕄)
    ⊢ |={Set.univ}=> bigSep Finset.univ (G' σ m) :=
  ((bigSep_mono fun c _ => alloc_cells σ m c).trans (bigSep_fupd _ _)).trans (BI.fupd_mono (share_out σ m))

/-! ## The credit at launch -/

theorem bar_inj {a b : Dev nD} (h : barCell a = barCell b) : a = b := congrArg (fun g : GSem nD τ sig => g.1.1) h
theorem recv_inj {a b : Dev nD} (h : recvCell a = recvCell b) : a = b := congrArg (fun g : GSem nD τ sig => g.1.1) h

/-- Device `d` owes device `c`'s barrier a signal exactly when `c` sends to `d`. -/
theorem owed_bar (d c : Dev nD) : owesAll σ d (barCell c) () = if d = dst σ c then 1 else 0 := by
  unfold owesAll owesBlock
  rw [Pi.add_apply, Finsupp.add_apply, tallyAt_ne_cell (fun h => recv_ne_bar (congrArg Prod.snd h).symm), tallyAt_apply,
    Finsupp.zero_apply, Nat.zero_add]
  by_cases h : d = dst σ c
  · subst h; rw [src_dst, if_pos ⟨rfl, rfl⟩, if_pos rfl]
  · rw [if_neg (fun ⟨h1, _⟩ => h (by rw [bar_inj h1, dst_src])), if_neg h]

/-- Device `d` owes device `c`'s receive cell a block exactly when `d` sends to `c`. -/
theorem owed_recv (d c : Dev nD) : owesAll σ d (recvCell c) () = if d = src σ c then N else 0 := by
  unfold owesAll owesBlock
  rw [Pi.add_apply, Finsupp.add_apply, tallyAt_apply, tallyAt_ne_cell (fun h => recv_ne_bar (congrArg Prod.snd h)),
    Finsupp.zero_apply, Nat.add_zero]
  by_cases h : d = src σ c
  · subst h; rw [dst_src, if_pos ⟨rfl, rfl⟩, if_pos rfl]
  · rw [if_neg (fun ⟨h1, _⟩ => h (by rw [recv_inj h1, src_dst])), if_neg h]

theorem credit_bar (c : Dev nD) :
    tallyOn (barCell c) (launchCredit (Pipeline.owing (owesAll σ)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar σ d c,
    Finset.sum_ite_eq' Finset.univ (dst σ c) fun _ => 1, if_pos (Finset.mem_univ _)]
theorem credit_recv (c : Dev nD) :
    tallyOn (recvCell c) (launchCredit (Pipeline.owing (owesAll σ)) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv σ d c,
    Finset.sum_ite_eq' Finset.univ (src σ c) fun _ => N, if_pos (Finset.mem_univ _)]

omit [FloatOps F] in
theorem credits (c : Dev nD) :
    (Pipeline.launchCred (owesAll σ) c : sProp 𝕄) ⊢ iprop(cred (tallyAt (barCell c) () 1) ∗ cred (tallyAt (recvCell c) () N)) := by
  unfold Pipeline.launchCred
  rw [bigSep_univ_at _ (SemLoc.reg barS), credit_bar]
  refine sep_mono_right ?_
  rw [← credit_recv σ]
  exact bigSep_elim (Finset.mem_erase.mpr ⟨recv_ne_bar, Finset.mem_univ _⟩)

/-! ## In and out of the pipeline -/

theorem start_of (c : Dev nD) :
    iprop(Pipeline.unscopedRestP Pipeline.Prefetch.none cfg0.spec c (fun b => m ((c : Thread nD τ).loc b)) ∗ levAts L lv
        ∗ Pipeline.launchCred (owesAll σ) c ∗ prngReg c (ρ c) ∗ G' σ m c)
      ⊢ |={Set.univ}=> iprop(start σ m c ∗ emp) := by
  iintro ⟨-, Hlev, Hcr, -, HG⟩
  ihave Hc := (credits (F := F) σ c) $$ Hcr
  icases Hc with ⟨H1, HN⟩
  imodintro
  unfold start G'
  isplitl
  · isplitl [HG]; · iexact HG
    isplitl [H1]; · iexact H1
    isplitl [HN]; · iexact HN
    iexact Hlev
  · iempintro

theorem enter (c : Dev nD) :
    iprop(start σ m c ∗ Pipeline.prefHeld Pipeline.Prefetch.none c (fun _ => fullShare.right) (fun k => k.elim0) ∗ Pipeline.scopedRest cfg0.spec c)
      ⊢ (dats σ m 0 c).Φ 0 := by
  rw [show (dats σ m 0 c).Φ 0 = iprop(start σ m c ∗ ∃ f, commPts c f) from rfl, scopedRest0_eq]
  iintro ⟨Hs, -, ⟨%f, Hr⟩⟩
  isplitl [Hs]; · iexact Hs
  iexists f; rw [commPts_eq]; iexact Hr

theorem leave (c : Dev nD) :
    (dats σ m 0 c).Φ (Fin.last cfg0.N) ⊢ iprop(unscopedSems0 c ∗ Pipeline.ownSems0 osem c ∗ Pipeline.scopedRest cfg0.spec c) := by
  rw [show (dats σ m 0 c).Φ (Fin.last cfg0.N) = finish m c from rfl, scopedRest0_eq, ownSems_list, unscopedSems_list]
  unfold finish
  iintro ⟨Hr, HzB, HzS, HzV⟩
  isplitl [HzB]; · iexact HzB
  isplitl [HzS HzV]
  · isplitl [HzS] <;> iassumption
  iexists (block m c); rw [← commPts_eq]; iexact Hr

theorem waits (c : Dev nD) : (levAts L lv : sProp 𝕄) ⊢ Pipeline.cellsWaits cfgs (dats σ m) () 0 c :=
  Pipeline.cellsWaits_intro cfgs (dats σ m) () 0 c fun w s t =>
    mayWait_stage σ c _ (by fin_cases w <;> fin_cases s <;> decide) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats σ m 0 c).arrAt w cfg0.N

set_option maxRecDepth 8000 in
/-- From any memory in which every device holds the table of `σ`, with all counters at zero, the program terminates with
    the arrays at their final contents and all counters at zero. -/
theorem run_arrays (h : Routed m σ) :
    θ_run defs (onTc (τ := τ) (main (F := F))) (start₀ m ρ)
      (fun r => (∀ c : Dev nD, ∀ w : Fin cfg0.W, r.2.mem ((cfg0.win w).arr.view.loc (c : Thread nD τ)) = finalA σ m c w) ∧ r.2.sem = fun _ => 0) :=
  Pipeline.θ_run_region_owing_glob_pf (fun p => (cfgs p).toPCfg) (fun p => (cfgs p).toPCfg_adm) (dats σ m) () cellOf_inj (0 : Fin 1)
    winFacts0.to₀ ownSemFacts (Pipeline.PreFacts.none _) EP defs₀ 𝒱₀ m ρ main
    (hmain := fun _ => rfl)
    (hbody := body_obligation σ m h) (hne := fun w => by fin_cases w <;> exact Nat.succ_pos _) (harr := arr_whole0) (hstage := stage_whole0) (hshare := full_share σ m)
    (hdistinct := winFacts0.arr_inj)
    (O₀ := owesAll σ) (howed₀ := fun _ => rfl) (howedN := fun _ => rfl)
    (L := L) (lv := lv) (hL := L_of_ne) (hwaits := waits σ m)
    (G := G σ m) (G' := G' σ m) (u₀ := u₀)
    (hu₀ := by
      unfold u₀
      iintro Hu
      ihave H := (ownU_pair _ _) $$ Hu
      icases H with ⟨HP, HX⟩
      imod (fund_cells σ m) $$ HX with HG
      imodintro
      isplitl [HP] <;> iassumption)
    (hglob := glob σ m)
    (hA := fun _ _ => rfl) (hpf := fun _ k => k.elim0)
    (X := start σ m) (Y := fun c => unscopedSems0 c) (Z := fun _ => iprop(emp))
    (hX := start_of σ m ρ) (hin := enter σ m) (hout := leave σ m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_block (c : Dev nD) : finalA σ m c (0 : Fin 3) = m ((c : Thread nD τ).loc main_arg0) :=
  (dats σ m 0 c).arrAt_in (0 : Fin 3) rfl _
theorem final_table (c : Dev nD) : finalA σ m c (1 : Fin 3) = m ((c : Thread nD τ).loc main_arg1) :=
  (dats σ m 0 c).arrAt_in (1 : Fin 3) rfl _
/-- The one write-back fills the whole result array. -/
theorem final_result (c : Dev nD) : finalA σ m c (2 : Fin 3) = block m (src σ c) :=
  (dats σ m 0 c).arrAt_eq_of_after_last (2 : Fin 3) t0_0 (by decide +kernel) (block m (src σ c)) fun _ => rfl

/-- What the exchange leaves: on every device the block of the device that sends to it, the arguments as they were, and all
    counters at zero. -/
def Exchanged (r : PUnit × MemSt nD τ sig (Elt F)) : Prop :=
  (∀ c : Dev nD, r.2.mem ((c : Thread nD τ).loc main_v1) = block m (src σ c)
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0

theorem run_main (h : Routed m σ) : θ_run defs (onTc (τ := τ) (main (F := F))) (start₀ m ρ) (Exchanged σ m) :=
  (θ_run _ _ _).mono (fun r hr => ⟨fun c => ⟨(hr.1 c 2).trans (final_result σ m c), (hr.1 c 0).trans (final_block σ m c),
    (hr.1 c 1).trans (final_table σ m c)⟩, hr.2⟩) (run_arrays σ m ρ h)

end Cert.Proof.Ideal

end
-- ==== Proof.Claims.lean ====
/-
  The claims, of any permutation `σ`: where every device holds the table of `σ`, both forms of the kernel end with
  arguments unchanged and counters at zero, and the exact form leaves on each device its block of the reference's result.
-/
module

public import proofs.«01_k».proof.Proof.Value
public import proofs.«01_k».proof.Proof.Ideal.Launch
public import proofs.«01_k».proof.Proof.Words.Launch
public import Idealize.ShloMosaic.PureOps.BitExact

@[expose] public section

noncomputable section

namespace Cert.Proof

open Idealize.ShloMosaic Idealize.ShloMosaic.TcCoe Idealize.SL.Sem

/-- The kernel on words: where every device holds the table of `σ`, it ends, the arguments are as they were and every
    counter is back at zero. -/
theorem frame_words (σ : Equiv.Perm (Fin 8)) (m : (ℓ : Loc Cert.Kernel.nD Cert.Kernel.τ Cert.Kernel.sig) → Buf (Elt Bits) ℓ)
    (g : Dev Cert.Kernel.nD → PrngReg) (h : Words.Routed m σ) :
    θ_run (Cert.Kernel.defs (F := Bits)) (onTc (τ := Cert.Kernel.τ) (Cert.Kernel.main (F := Bits))) ⟨m, fun _ => 0, g⟩
      (fun r => (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
        ∧ r.2.mem ((c.tc : Thread Cert.Kernel.nD Cert.Kernel.τ).loc Cert.Kernel.main_arg1)
            = m ((c.tc : Thread Cert.Kernel.nD Cert.Kernel.τ).loc Cert.Kernel.main_arg1))
        ∧ r.2.sem = fun _ => 0) :=
  (θ_run Cert.Kernel.defs _ _).mono (fun _ hr => ⟨fun c => (hr.1 c).2, hr.2⟩) (Words.run_main σ m g h)

/-- The same of the kernel on exact numbers. -/
theorem frame_ideal (σ : Equiv.Perm (Fin 8))
    (m : (ℓ : Loc Cert.KernelIdeal.nD Cert.KernelIdeal.τ Cert.KernelIdeal.sig) → Buf (Elt Ideal) ℓ)
    (g : Dev Cert.KernelIdeal.nD → PrngReg) (h : Ideal.Routed m σ) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ hr => ⟨fun c => (hr.1 c).2, hr.2⟩) (Ideal.run_main σ m g h)

/-- The reference ends with its arguments as they were; it has no counters. -/
theorem frame_reference
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun r hr => ⟨fun c => (hr c).2, sem_eq_zero_of_no_sems (by decide) r.2⟩)
    (Cert.ReferenceIdeal.Value.run (F := Ideal) m g)

/-- The eight blocks tile the whole array. -/
theorem tiles : Layout.Tiles ⟨3, ![1, 512, 512]⟩ ⟨3, ![8, 512, 512]⟩ 0 8 := by decide

/-- Row `d` of the whole, read where block `c` puts its element, is where block `d` puts that element. -/
theorem atRow_idx (c d : Fin 8) (i : Shape.Idx ⟨3, ![1, 512, 512]⟩) : atRow (tiles.idx c i) d = tiles.idx d i := by
  have hi : (i 0).val = 0 := Nat.lt_one_iff.mp (i 0).isLt
  funext a
  match a with
  | ⟨0, _⟩ =>
    refine Fin.ext ?_
    show d.val = d.val * 1 + (i 0).val
    omega
  | ⟨1, _⟩ => exact Fin.ext rfl
  | ⟨2, _⟩ => exact Fin.ext rfl

/-- The row of the whole that block `c` occupies. -/
theorem idx_row (c : Fin 8) (i : Shape.Idx ⟨3, ![1, 512, 512]⟩) : tiles.idx c i 0 = c := by
  have hi : (i 0).val = 0 := Nat.lt_one_iff.mp (i 0).isLt
  refine Fin.ext ?_
  show c.val * 1 + (i 0).val = c.val
  omega

/-- The value: where the devices hold the blocks of the reference's argument and its table, the table of `σ`, each device
    ends with its block of the reference's result. -/
theorem value (σ : Equiv.Perm (Fin 8))
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : Ideal.Routed m σ)
    (agree : ∀ c : Dev Cert.KernelIdeal.nD,
      m ((c.tc : Thread Cert.KernelIdeal.nD Cert.KernelIdeal.τ).loc Cert.KernelIdeal.main_arg0) = Layout.block ⟨3, ![1, 512, 512]⟩ ⟨3, ![8, 512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![8, 512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have ht : m' (((0 : Dev Cert.ReferenceIdeal.nD).tc : Thread Cert.ReferenceIdeal.nD Cert.ReferenceIdeal.τ).loc Cert.ReferenceIdeal.main_arg1)
      = tableOf σ := (agree 0).2.symm.trans (h 0)
  refine ⟨_, ?_, (θ_run Cert.ReferenceIdeal.defs _ _).mono (fun r hr => hr 0) (Cert.ReferenceIdeal.Value.run (F := Ideal) m' g')⟩
  refine (θ_run Cert.KernelIdeal.defs _ _).mono (fun r hr c => ⟨(hr.1 c).1.trans ?_, (hr.1 c).2⟩) (Ideal.run_main σ m g h)
  refine (agree (σ.symm c)).1.trans ?_
  rw [ht]
  funext i
  refine Eq.trans ?_ (reference_apply σ _ (tiles.idx c i)).symm
  rw [idx_row, atRow_idx]
  rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_roll_1_Kernel
public import proofs.«01_k».proof.Proof.Gen.Pre_roll_2_Kernel
public import proofs.«01_k».proof.Proof.Gen.Pre_roll_3_Kernel
public import proofs.«01_k».proof.Proof.Gen.Pre_roll_4_Kernel
public import proofs.«01_k».proof.Proof.Gen.Pre_roll_5_Kernel
public import proofs.«01_k».proof.Proof.Gen.Pre_roll_6_Kernel
public import proofs.«01_k».proof.Proof.Gen.Pre_roll_7_Kernel
public import proofs.«01_k».proof.Proof.Gen.Pre_roll_1_ReferenceIdeal
public import proofs.«01_k».proof.Proof.Gen.Pre_roll_2_ReferenceIdeal
public import proofs.«01_k».proof.Proof.Gen.Pre_roll_3_ReferenceIdeal
public import proofs.«01_k».proof.Proof.Gen.Pre_roll_4_ReferenceIdeal
public import proofs.«01_k».proof.Proof.Gen.Pre_roll_5_ReferenceIdeal
public import proofs.«01_k».proof.Proof.Gen.Pre_roll_6_ReferenceIdeal
public import proofs.«01_k».proof.Proof.Gen.Pre_roll_7_ReferenceIdeal
public import proofs.«01_k».proof.Proof.Rolls
public import proofs.«01_k».proof.Proof.Claims
public import Idealize.ShloMosaic.Adequacy
public import Idealize.ShloMosaic.Init

@[expose] public section

noncomputable section

namespace Cert.Proof

open Idealize.ShloMosaic Idealize.SL.Sem Cert.Kernel

/-- What `roll_1` says of each device's table: it is the table of the shift by 1. -/
theorem routed_words_1 (m : (ℓ : Loc Cert.Kernel.nD Cert.Kernel.τ Cert.Kernel.sig) → Buf (Elt Bits) ℓ)
    (h : Pre_Kernel m) : Words.Routed m (shift 1) :=
  fun c => table_shift 1 _ fun j => congrFun (h c) (at8 j)
/-- The same of the kernel on exact numbers. -/
theorem routed_ideal_1 (m : (ℓ : Loc Cert.KernelIdeal.nD Cert.KernelIdeal.τ Cert.KernelIdeal.sig) → Buf (Elt Ideal) ℓ)
    (h : Pre_KernelIdeal m) : Ideal.Routed m (shift 1) :=
  fun c => table_shift 1 _ fun j => congrFun (h c) (at8 j)

/-- What `roll_2` says of each device's table: it is the table of the shift by 2. -/
theorem routed_words_2 (m : (ℓ : Loc Cert.Kernel.nD Cert.Kernel.τ Cert.Kernel.sig) → Buf (Elt Bits) ℓ)
    (h : Pre_Kernel_roll_2_Kernel m) : Words.Routed m (shift 2) :=
  fun c => table_shift 2 _ fun j => congrFun (h c) (at8 j)
/-- The same of the kernel on exact numbers. -/
theorem routed_ideal_2 (m : (ℓ : Loc Cert.KernelIdeal.nD Cert.KernelIdeal.τ Cert.KernelIdeal.sig) → Buf (Elt Ideal) ℓ)
    (h : Pre_KernelIdeal_roll_2_Kernel m) : Ideal.Routed m (shift 2) :=
  fun c => table_shift 2 _ fun j => congrFun (h c) (at8 j)

/-- What `roll_3` says of each device's table: it is the table of the shift by 3. -/
theorem routed_words_3 (m : (ℓ : Loc Cert.Kernel.nD Cert.Kernel.τ Cert.Kernel.sig) → Buf (Elt Bits) ℓ)
    (h : Pre_Kernel_roll_3_Kernel m) : Words.Routed m (shift 3) :=
  fun c => table_shift 3 _ fun j => congrFun (h c) (at8 j)
/-- The same of the kernel on exact numbers. -/
theorem routed_ideal_3 (m : (ℓ : Loc Cert.KernelIdeal.nD Cert.KernelIdeal.τ Cert.KernelIdeal.sig) → Buf (Elt Ideal) ℓ)
    (h : Pre_KernelIdeal_roll_3_Kernel m) : Ideal.Routed m (shift 3) :=
  fun c => table_shift 3 _ fun j => congrFun (h c) (at8 j)

/-- What `roll_4` says of each device's table: it is the table of the shift by 4. -/
theorem routed_words_4 (m : (ℓ : Loc Cert.Kernel.nD Cert.Kernel.τ Cert.Kernel.sig) → Buf (Elt Bits) ℓ)
    (h : Pre_Kernel_roll_4_Kernel m) : Words.Routed m (shift 4) :=
  fun c => table_shift 4 _ fun j => congrFun (h c) (at8 j)
/-- The same of the kernel on exact numbers. -/
theorem routed_ideal_4 (m : (ℓ : Loc Cert.KernelIdeal.nD Cert.KernelIdeal.τ Cert.KernelIdeal.sig) → Buf (Elt Ideal) ℓ)
    (h : Pre_KernelIdeal_roll_4_Kernel m) : Ideal.Routed m (shift 4) :=
  fun c => table_shift 4 _ fun j => congrFun (h c) (at8 j)

/-- What `roll_5` says of each device's table: it is the table of the shift by 5. -/
theorem routed_words_5 (m : (ℓ : Loc Cert.Kernel.nD Cert.Kernel.τ Cert.Kernel.sig) → Buf (Elt Bits) ℓ)
    (h : Pre_Kernel_roll_5_Kernel m) : Words.Routed m (shift 5) :=
  fun c => table_shift 5 _ fun j => congrFun (h c) (at8 j)
/-- The same of the kernel on exact numbers. -/
theorem routed_ideal_5 (m : (ℓ : Loc Cert.KernelIdeal.nD Cert.KernelIdeal.τ Cert.KernelIdeal.sig) → Buf (Elt Ideal) ℓ)
    (h : Pre_KernelIdeal_roll_5_Kernel m) : Ideal.Routed m (shift 5) :=
  fun c => table_shift 5 _ fun j => congrFun (h c) (at8 j)

/-- What `roll_6` says of each device's table: it is the table of the shift by 6. -/
theorem routed_words_6 (m : (ℓ : Loc Cert.Kernel.nD Cert.Kernel.τ Cert.Kernel.sig) → Buf (Elt Bits) ℓ)
    (h : Pre_Kernel_roll_6_Kernel m) : Words.Routed m (shift 6) :=
  fun c => table_shift 6 _ fun j => congrFun (h c) (at8 j)
/-- The same of the kernel on exact numbers. -/
theorem routed_ideal_6 (m : (ℓ : Loc Cert.KernelIdeal.nD Cert.KernelIdeal.τ Cert.KernelIdeal.sig) → Buf (Elt Ideal) ℓ)
    (h : Pre_KernelIdeal_roll_6_Kernel m) : Ideal.Routed m (shift 6) :=
  fun c => table_shift 6 _ fun j => congrFun (h c) (at8 j)

/-- What `roll_7` says of each device's table: it is the table of the shift by 7. -/
theorem routed_words_7 (m : (ℓ : Loc Cert.Kernel.nD Cert.Kernel.τ Cert.Kernel.sig) → Buf (Elt Bits) ℓ)
    (h : Pre_Kernel_roll_7_Kernel m) : Words.Routed m (shift 7) :=
  fun c => table_shift 7 _ fun j => congrFun (h c) (at8 j)
/-- The same of the kernel on exact numbers. -/
theorem routed_ideal_7 (m : (ℓ : Loc Cert.KernelIdeal.nD Cert.KernelIdeal.τ Cert.KernelIdeal.sig) → Buf (Elt Ideal) ℓ)
    (h : Pre_KernelIdeal_roll_7_Kernel m) : Ideal.Routed m (shift 7) :=
  fun c => table_shift 7 _ fun j => congrFun (h c) (at8 j)

/-- Every claim: each is the general statement at the shift that its precondition names. -/
theorem claim : Cert.Claim := ⟨Cert.Kernel.Gen.facts, Cert.KernelIdeal.Gen.facts, Cert.ReferenceIdeal.Gen.facts, Cert.Pre_roll_1_Kernel.Gen.facts, Cert.Pre_roll_2_Kernel.Gen.facts, Cert.Pre_roll_3_Kernel.Gen.facts, Cert.Pre_roll_4_Kernel.Gen.facts, Cert.Pre_roll_5_Kernel.Gen.facts, Cert.Pre_roll_6_Kernel.Gen.facts, Cert.Pre_roll_7_Kernel.Gen.facts, Cert.Pre_roll_1_ReferenceIdeal.Gen.facts, Cert.Pre_roll_2_ReferenceIdeal.Gen.facts, Cert.Pre_roll_3_ReferenceIdeal.Gen.facts, Cert.Pre_roll_4_ReferenceIdeal.Gen.facts, Cert.Pre_roll_5_ReferenceIdeal.Gen.facts, Cert.Pre_roll_6_ReferenceIdeal.Gen.facts, Cert.Pre_roll_7_ReferenceIdeal.Gen.facts,
  fun m g h => frame_words (shift 1) m g (routed_words_1 m h),
  fun m g h => frame_words (shift 2) m g (routed_words_2 m h),
  fun m g h => frame_words (shift 3) m g (routed_words_3 m h),
  fun m g h => frame_words (shift 4) m g (routed_words_4 m h),
  fun m g h => frame_words (shift 5) m g (routed_words_5 m h),
  fun m g h => frame_words (shift 6) m g (routed_words_6 m h),
  fun m g h => frame_words (shift 7) m g (routed_words_7 m h),
  fun m g h => frame_ideal (shift 1) m g (routed_ideal_1 m h),
  fun m g h => frame_ideal (shift 2) m g (routed_ideal_2 m h),
  fun m g h => frame_ideal (shift 3) m g (routed_ideal_3 m h),
  fun m g h => frame_ideal (shift 4) m g (routed_ideal_4 m h),
  fun m g h => frame_ideal (shift 5) m g (routed_ideal_5 m h),
  fun m g h => frame_ideal (shift 6) m g (routed_ideal_6 m h),
  fun m g h => frame_ideal (shift 7) m g (routed_ideal_7 m h),
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  trivial,
  fun m g m' g' h agree => value (shift 1) m g m' g' (routed_ideal_1 m h) agree,
  fun m g m' g' h agree => value (shift 2) m g m' g' (routed_ideal_2 m h) agree,
  fun m g m' g' h agree => value (shift 3) m g m' g' (routed_ideal_3 m h) agree,
  fun m g m' g' h agree => value (shift 4) m g m' g' (routed_ideal_4 m h) agree,
  fun m g m' g' h agree => value (shift 5) m g m' g' (routed_ideal_5 m h) agree,
  fun m g m' g' h agree => value (shift 6) m g m' g' (routed_ideal_6 m h) agree,
  fun m g m' g' h agree => value (shift 7) m g m' g' (routed_ideal_7 m h) agree⟩

end Cert.Proof

end
